-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S10x80x10000 : Shape := ⟨3, ![10, 80, 10000]⟩
abbrev S10 : Shape := ⟨1, ![10]⟩
abbrev S2x80x256 : Shape := ⟨3, ![2, 80, 256]⟩
abbrev S2 : Shape := ⟨1, ![2]⟩
abbrev S1 : Shape := ⟨1, ![1]⟩
abbrev S_ : Shape := ⟨0, ![]⟩
abbrev S1x80x10000 : Shape := ⟨3, ![1, 80, 10000]⟩
abbrev S80x10000 : Shape := ⟨2, ![80, 10000]⟩
abbrev S80x256 : Shape := ⟨2, ![80, 256]⟩
abbrev S1x80x256 : Shape := ⟨3, ![1, 80, 256]⟩

abbrev nBuf : Space → Nat
  | .hbm => 6
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S10000x256, .bf16⟩
  | .local _ .vmem, ⟨4, _⟩ => ⟨S10x80x10000, .f32⟩
  | .local _ .vmem, ⟨5, _⟩ => ⟨S2x80x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scoped0 : Ref sig .tc := ⟨.vmem, 4, rfl⟩
abbrev cc0_scoped2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_105_r0 : BitVec 32 := 0#32
  let c10_i32_r0 : BitVec 32 := 10#32
  let v119_r0 : BitVec 32 := Scalar.remui c0_i32_105_r0 c10_i32_r0
  ![v119_r0.toNat]
def k0_off2 : Fin 3 → Nat :=
  let c0_i32_105_r0 : BitVec 32 := 0#32
  let c10_i32_r0 : BitVec 32 := 10#32
  let v119_r0 : BitVec 32 := Scalar.remui c0_i32_105_r0 c10_i32_r0
  let c0_i32_107_r0 : BitVec 32 := 0#32
  let c0_i32_108_r0 : BitVec 32 := 0#32
  ![v119_r0.toNat, 0, 0]
def k0_off3 : Fin 2 → Nat :=
  let c80_i32_r0 : BitVec 32 := 80#32
  let c0_i32_101_r0 : BitVec 32 := 0#32
  let c0_i32_102_r0 : BitVec 32 := 0#32
  let v117_r0 : BitVec 32 := Scalar.addi c0_i32_101_r0 c0_i32_102_r0
  let c5_i32_106_r0 : BitVec 32 := 5#32
  let v120_r0 : BitVec 32 := Scalar.muli v117_r0 c5_i32_106_r0
  let c0_i32_103_r0 : BitVec 32 := 0#32
  let c0_i32_104_r0 : BitVec 32 := 0#32
  let v118_r0 : BitVec 32 := Scalar.addi c0_i32_103_r0 c0_i32_104_r0
  let v121_r0 : BitVec 32 := Scalar.addi v120_r0 v118_r0
  let v122_r0 : BitVec 32 := Scalar.muli c80_i32_r0 v121_r0
  let c0_i32_109_r0 : BitVec 32 := 0#32
  ![v122_r0.toNat, 0]
def k0_off4 (arg10_r0 : BitVec 32) : Fin 1 → Nat :=
  let c10_i32_332_r0 : BitVec 32 := 10#32
  let v376_r0 : BitVec 32 := Scalar.remui arg10_r0 c10_i32_332_r0
  ![v376_r0.toNat]
def k0_cond1 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off5 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk1 (arg6_r0 : BitVec 32) (arg7_r0 : BitVec 32) (arg8_r0 : BitVec 32) (arg9_r0 : BitVec 32) (arg10_r0 : BitVec 32) : Prop :=
  (∀ (k0_h1 : k0_cond1 arg6_r0 arg7_r0 arg8_r0 arg9_r0 = 1#1), ∀ a, (k0_off4 arg10_r0) a + S1.size a ≤ S10.size a) ∧
  (∀ (k0_h1 : k0_cond1 arg6_r0 arg7_r0 arg8_r0 arg9_r0 = 1#1), ∀ a, (k0_off5 arg10_r0) a + S1x80x10000.size a ≤ S10x80x10000.size a)
theorem k0_off4_inb : ∀ (arg6_r0 : BitVec 32) (arg7_r0 : BitVec 32) (arg8_r0 : BitVec 32) (arg9_r0 : BitVec 32) (arg10_r0 : BitVec 32) (k0_hw1 : k0_chk1 arg6_r0 arg7_r0 arg8_r0 arg9_r0 arg10_r0), ∀ (k0_h1 : k0_cond1 arg6_r0 arg7_r0 arg8_r0 arg9_r0 = 1#1), ∀ a, (k0_off4 arg10_r0) a + S1.size a ≤ S10.size a := fun arg6_r0 arg7_r0 arg8_r0 arg9_r0 arg10_r0 k0_hw1 k0_h1 => k0_hw1.1 k0_h1
theorem k0_off5_inb : ∀ (arg6_r0 : BitVec 32) (arg7_r0 : BitVec 32) (arg8_r0 : BitVec 32) (arg9_r0 : BitVec 32) (arg10_r0 : BitVec 32) (k0_hw1 : k0_chk1 arg6_r0 arg7_r0 arg8_r0 arg9_r0 arg10_r0), ∀ (k0_h1 : k0_cond1 arg6_r0 arg7_r0 arg8_r0 arg9_r0 = 1#1), ∀ a, (k0_off5 arg10_r0) a + S1x80x10000.size a ≤ S10x80x10000.size a := fun arg6_r0 arg7_r0 arg8_r0 arg9_r0 arg10_r0 k0_hw1 k0_h1 => k0_hw1.2 k0_h1

def k0_off6 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk2 (arg6_r0 : BitVec 32) (arg7_r0 : BitVec 32) (arg8_r0 : BitVec 32) (arg9_r0 : BitVec 32) : Prop :=
  (∀ (k0_h1 : k0_cond1 arg6_r0 arg7_r0 arg8_r0 arg9_r0 = 1#1), ∀ a, (k0_off6 arg8_r0 arg9_r0) a + S80x10000.size a ≤ S10000x10000.size a)
theorem k0_off6_inb : ∀ (arg6_r0 : BitVec 32) (arg7_r0 : BitVec 32) (arg8_r0 : BitVec 32) (arg9_r0 : BitVec 32) (k0_hw2 : k0_chk2 arg6_r0 arg7_r0 arg8_r0 arg9_r0), ∀ (k0_h1 : k0_cond1 arg6_r0 arg7_r0 arg8_r0 arg9_r0 = 1#1), ∀ a, (k0_off6 arg8_r0 arg9_r0) a + S80x10000.size a ≤ S10000x10000.size a := fun arg6_r0 arg7_r0 arg8_r0 arg9_r0 k0_hw2 k0_h1 => k0_hw2 k0_h1

def k0_off7 (arg10_r0 : BitVec 32) : Fin 1 → Nat :=
  let c10_i32_332_r0 : BitVec 32 := 10#32
  let v376_r0 : BitVec 32 := Scalar.remui arg10_r0 c10_i32_332_r0
  ![v376_r0.toNat]
def k0_cond2 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off8 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk3 (arg6_r0 : BitVec 32) (arg7_r0 : BitVec 32) (arg8_r0 : BitVec 32) (arg9_r0 : BitVec 32) (arg10_r0 : BitVec 32) : Prop :=
  (∀ (k0_h2 : k0_cond2 arg6_r0 arg7_r0 arg8_r0 arg9_r0 = 1#1), ∀ a, (k0_off7 arg10_r0) a + S1.size a ≤ S10.size a) ∧
  (∀ (k0_h2 : k0_cond2 arg6_r0 arg7_r0 arg8_r0 arg9_r0 = 1#1), ∀ a, (k0_off8 arg10_r0) a + S1x80x10000.size a ≤ S10x80x10000.size a)
theorem k0_off7_inb : ∀ (arg6_r0 : BitVec 32) (arg7_r0 : BitVec 32) (arg8_r0 : BitVec 32) (arg9_r0 : BitVec 32) (arg10_r0 : BitVec 32) (k0_hw3 : k0_chk3 arg6_r0 arg7_r0 arg8_r0 arg9_r0 arg10_r0), ∀ (k0_h2 : k0_cond2 arg6_r0 arg7_r0 arg8_r0 arg9_r0 = 1#1), ∀ a, (k0_off7 arg10_r0) a + S1.size a ≤ S10.size a := fun arg6_r0 arg7_r0 arg8_r0 arg9_r0 arg10_r0 k0_hw3 k0_h2 => k0_hw3.1 k0_h2
theorem k0_off8_inb : ∀ (arg6_r0 : BitVec 32) (arg7_r0 : BitVec 32) (arg8_r0 : BitVec 32) (arg9_r0 : BitVec 32) (arg10_r0 : BitVec 32) (k0_hw3 : k0_chk3 arg6_r0 arg7_r0 arg8_r0 arg9_r0 arg10_r0), ∀ (k0_h2 : k0_cond2 arg6_r0 arg7_r0 arg8_r0 arg9_r0 = 1#1), ∀ a, (k0_off8 arg10_r0) a + S1x80x10000.size a ≤ S10x80x10000.size a := fun arg6_r0 arg7_r0 arg8_r0 arg9_r0 arg10_r0 k0_hw3 k0_h2 => k0_hw3.2 k0_h2

def k0_off9 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk4 (arg6_r0 : BitVec 32) (arg7_r0 : BitVec 32) (arg8_r0 : BitVec 32) (arg9_r0 : BitVec 32) : Prop :=
  (∀ (k0_h2 : k0_cond2 arg6_r0 arg7_r0 arg8_r0 arg9_r0 = 1#1), ∀ a, (k0_off9 arg8_r0 arg9_r0) a + S80x10000.size a ≤ S10000x10000.size a)
theorem k0_off9_inb : ∀ (arg6_r0 : BitVec 32) (arg7_r0 : BitVec 32) (arg8_r0 : BitVec 32) (arg9_r0 : BitVec 32) (k0_hw4 : k0_chk4 arg6_r0 arg7_r0 arg8_r0 arg9_r0), ∀ (k0_h2 : k0_cond2 arg6_r0 arg7_r0 arg8_r0 arg9_r0 = 1#1), ∀ a, (k0_off9 arg8_r0 arg9_r0) a + S80x10000.size a ≤ S10000x10000.size a := fun arg6_r0 arg7_r0 arg8_r0 arg9_r0 k0_hw4 k0_h2 => k0_hw4 k0_h2

def k0_off10 (arg10_r0 : BitVec 32) : Fin 1 → Nat :=
  let c10_i32_332_r0 : BitVec 32 := 10#32
  let v376_r0 : BitVec 32 := Scalar.remui arg10_r0 c10_i32_332_r0
  ![v376_r0.toNat]
def k0_cond3 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off11 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk5 (arg6_r0 : BitVec 32) (arg7_r0 : BitVec 32) (arg8_r0 : BitVec 32) (arg9_r0 : BitVec 32) (arg10_r0 : BitVec 32) : Prop :=
  (∀ (k0_h3 : k0_cond3 arg6_r0 arg7_r0 arg8_r0 arg9_r0 = 1#1), ∀ a, (k0_off10 arg10_r0) a + S1.size a ≤ S10.size a) ∧
  (∀ (k0_h3 : k0_cond3 arg6_r0 arg7_r0 arg8_r0 arg9_r0 = 1#1), ∀ a, (k0_off11 arg10_r0) a + S1x80x10000.size a ≤ S10x80x10000.size a)
theorem k0_off10_inb : ∀ (arg6_r0 : BitVec 32) (arg7_r0 : BitVec 32) (arg8_r0 : BitVec 32) (arg9_r0 : BitVec 32) (arg10_r0 : BitVec 32) (k0_hw5 : k0_chk5 arg6_r0 arg7_r0 arg8_r0 arg9_r0 arg10_r0), ∀ (k0_h3 : k0_cond3 arg6_r0 arg7_r0 arg8_r0 arg9_r0 = 1#1), ∀ a, (k0_off10 arg10_r0) a + S1.size a ≤ S10.size a := fun arg6_r0 arg7_r0 arg8_r0 arg9_r0 arg10_r0 k0_hw5 k0_h3 => k0_hw5.1 k0_h3
theorem k0_off11_inb : ∀ (arg6_r0 : BitVec 32) (arg7_r0 : BitVec 32) (arg8_r0 : BitVec 32) (arg9_r0 : BitVec 32) (arg10_r0 : BitVec 32) (k0_hw5 : k0_chk5 arg6_r0 arg7_r0 arg8_r0 arg9_r0 arg10_r0), ∀ (k0_h3 : k0_cond3 arg6_r0 arg7_r0 arg8_r0 arg9_r0 = 1#1), ∀ a, (k0_off11 arg10_r0) a + S1x80x10000.size a ≤ S10x80x10000.size a := fun arg6_r0 arg7_r0 arg8_r0 arg9_r0 arg10_r0 k0_hw5 k0_h3 => k0_hw5.2 k0_h3

def k0_off12 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk6 (arg6_r0 : BitVec 32) (arg7_r0 : BitVec 32) (arg8_r0 : BitVec 32) (arg9_r0 : BitVec 32) : Prop :=
  (∀ (k0_h3 : k0_cond3 arg6_r0 arg7_r0 arg8_r0 arg9_r0 = 1#1), ∀ a, (k0_off12 arg8_r0 arg9_r0) a + S80x10000.size a ≤ S10000x10000.size a)
theorem k0_off12_inb : ∀ (arg6_r0 : BitVec 32) (arg7_r0 : BitVec 32) (arg8_r0 : BitVec 32) (arg9_r0 : BitVec 32) (k0_hw6 : k0_chk6 arg6_r0 arg7_r0 arg8_r0 arg9_r0), ∀ (k0_h3 : k0_cond3 arg6_r0 arg7_r0 arg8_r0 arg9_r0 = 1#1), ∀ a, (k0_off12 arg8_r0 arg9_r0) a + S80x10000.size a ≤ S10000x10000.size a := fun arg6_r0 arg7_r0 arg8_r0 arg9_r0 k0_hw6 k0_h3 => k0_hw6 k0_h3

def k0_off13 (arg10_r0 : BitVec 32) : Fin 1 → Nat :=
  let c10_i32_332_r0 : BitVec 32 := 10#32
  let v376_r0 : BitVec 32 := Scalar.remui arg10_r0 c10_i32_332_r0
  ![v376_r0.toNat]
def k0_cond4 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off14 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk7 (arg6_r0 : BitVec 32) (arg7_r0 : BitVec 32) (arg8_r0 : BitVec 32) (arg9_r0 : BitVec 32) (arg10_r0 : BitVec 32) : Prop :=
  (∀ (k0_h4 : k0_cond4 arg6_r0 arg7_r0 arg8_r0 arg9_r0 = 1#1), ∀ a, (k0_off13 arg10_r0) a + S1.size a ≤ S10.size a) ∧
  (∀ (k0_h4 : k0_cond4 arg6_r0 arg7_r0 arg8_r0 arg9_r0 = 1#1), ∀ a, (k0_off14 arg10_r0) a + S1x80x10000.size a ≤ S10x80x10000.size a)
theorem k0_off13_inb : ∀ (arg6_r0 : BitVec 32) (arg7_r0 : BitVec 32) (arg8_r0 : BitVec 32) (arg9_r0 : BitVec 32) (arg10_r0 : BitVec 32) (k0_hw7 : k0_chk7 arg6_r0 arg7_r0 arg8_r0 arg9_r0 arg10_r0), ∀ (k0_h4 : k0_cond4 arg6_r0 arg7_r0 arg8_r0 arg9_r0 = 1#1), ∀ a, (k0_off13 arg10_r0) a + S1.size a ≤ S10.size a := fun arg6_r0 arg7_r0 arg8_r0 arg9_r0 arg10_r0 k0_hw7 k0_h4 => k0_hw7.1 k0_h4
theorem k0_off14_inb : ∀ (arg6_r0 : BitVec 32) (arg7_r0 : BitVec 32) (arg8_r0 : BitVec 32) (arg9_r0 : BitVec 32) (arg10_r0 : BitVec 32) (k0_hw7 : k0_chk7 arg6_r0 arg7_r0 arg8_r0 arg9_r0 arg10_r0), ∀ (k0_h4 : k0_cond4 arg6_r0 arg7_r0 arg8_r0 arg9_r0 = 1#1), ∀ a, (k0_off14 arg10_r0) a + S1x80x10000.size a ≤ S10x80x10000.size a := fun arg6_r0 arg7_r0 arg8_r0 arg9_r0 arg10_r0 k0_hw7 k0_h4 => k0_hw7.2 k0_h4

def k0_off15 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk8 (arg6_r0 : BitVec 32) (arg7_r0 : BitVec 32) (arg8_r0 : BitVec 32) (arg9_r0 : BitVec 32) : Prop :=
  (∀ (k0_h4 : k0_cond4 arg6_r0 arg7_r0 arg8_r0 arg9_r0 = 1#1), ∀ a, (k0_off15 arg8_r0 arg9_r0) a + S80x10000.size a ≤ S10000x10000.size a)
theorem k0_off15_inb : ∀ (arg6_r0 : BitVec 32) (arg7_r0 : BitVec 32) (arg8_r0 : BitVec 32) (arg9_r0 : BitVec 32) (k0_hw8 : k0_chk8 arg6_r0 arg7_r0 arg8_r0 arg9_r0), ∀ (k0_h4 : k0_cond4 arg6_r0 arg7_r0 arg8_r0 arg9_r0 = 1#1), ∀ a, (k0_off15 arg8_r0 arg9_r0) a + S80x10000.size a ≤ S10000x10000.size a := fun arg6_r0 arg7_r0 arg8_r0 arg9_r0 k0_hw8 k0_h4 => k0_hw8 k0_h4

def k0_off16 (arg10_r0 : BitVec 32) : Fin 1 → Nat :=
  let c10_i32_332_r0 : BitVec 32 := 10#32
  let v376_r0 : BitVec 32 := Scalar.remui arg10_r0 c10_i32_332_r0
  ![v376_r0.toNat]
def k0_cond5 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off17 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk9 (arg6_r0 : BitVec 32) (arg7_r0 : BitVec 32) (arg8_r0 : BitVec 32) (arg9_r0 : BitVec 32) (arg10_r0 : BitVec 32) : Prop :=
  (∀ (k0_h5 : k0_cond5 arg6_r0 arg7_r0 arg8_r0 arg9_r0 = 1#1), ∀ a, (k0_off16 arg10_r0) a + S1.size a ≤ S10.size a) ∧
  (∀ (k0_h5 : k0_cond5 arg6_r0 arg7_r0 arg8_r0 arg9_r0 = 1#1), ∀ a, (k0_off17 arg10_r0) a + S1x80x10000.size a ≤ S10x80x10000.size a)
theorem k0_off16_inb : ∀ (arg6_r0 : BitVec 32) (arg7_r0 : BitVec 32) (arg8_r0 : BitVec 32) (arg9_r0 : BitVec 32) (arg10_r0 : BitVec 32) (k0_hw9 : k0_chk9 arg6_r0 arg7_r0 arg8_r0 arg9_r0 arg10_r0), ∀ (k0_h5 : k0_cond5 arg6_r0 arg7_r0 arg8_r0 arg9_r0 = 1#1), ∀ a, (k0_off16 arg10_r0) a + S1.size a ≤ S10.size a := fun arg6_r0 arg7_r0 arg8_r0 arg9_r0 arg10_r0 k0_hw9 k0_h5 => k0_hw9.1 k0_h5
theorem k0_off17_inb : ∀ (arg6_r0 : BitVec 32) (arg7_r0 : BitVec 32) (arg8_r0 : BitVec 32) (arg9_r0 : BitVec 32) (arg10_r0 : BitVec 32) (k0_hw9 : k0_chk9 arg6_r0 arg7_r0 arg8_r0 arg9_r0 arg10_r0), ∀ (k0_h5 : k0_cond5 arg6_r0 arg7_r0 arg8_r0 arg9_r0 = 1#1), ∀ a, (k0_off17 arg10_r0) a + S1x80x10000.size a ≤ S10x80x10000.size a := fun arg6_r0 arg7_r0 arg8_r0 arg9_r0 arg10_r0 k0_hw9 k0_h5 => k0_hw9.2 k0_h5

def k0_off18 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk10 (arg6_r0 : BitVec 32) (arg7_r0 : BitVec 32) (arg8_r0 : BitVec 32) (arg9_r0 : BitVec 32) : Prop :=
  (∀ (k0_h5 : k0_cond5 arg6_r0 arg7_r0 arg8_r0 arg9_r0 = 1#1), ∀ a, (k0_off18 arg8_r0 arg9_r0) a + S80x10000.size a ≤ S10000x10000.size a)
theorem k0_off18_inb : ∀ (arg6_r0 : BitVec 32) (arg7_r0 : BitVec 32) (arg8_r0 : BitVec 32) (arg9_r0 : BitVec 32) (k0_hw10 : k0_chk10 arg6_r0 arg7_r0 arg8_r0 arg9_r0), ∀ (k0_h5 : k0_cond5 arg6_r0 arg7_r0 arg8_r0 arg9_r0 = 1#1), ∀ a, (k0_off18 arg8_r0 arg9_r0) a + S80x10000.size a ≤ S10000x10000.size a := fun arg6_r0 arg7_r0 arg8_r0 arg9_r0 k0_hw10 k0_h5 => k0_hw10 k0_h5

def k0_off19 (arg10_r0 : BitVec 32) : Fin 1 → Nat :=
  let c10_i32_332_r0 : BitVec 32 := 10#32
  let v376_r0 : BitVec 32 := Scalar.remui arg10_r0 c10_i32_332_r0
  ![v376_r0.toNat]
def k0_cond6 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off20 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk11 (arg6_r0 : BitVec 32) (arg7_r0 : BitVec 32) (arg8_r0 : BitVec 32) (arg9_r0 : BitVec 32) (arg10_r0 : BitVec 32) : Prop :=
  (∀ (k0_h6 : k0_cond6 arg6_r0 arg7_r0 arg8_r0 arg9_r0 = 1#1), ∀ a, (k0_off19 arg10_r0) a + S1.size a ≤ S10.size a) ∧
  (∀ (k0_h6 : k0_cond6 arg6_r0 arg7_r0 arg8_r0 arg9_r0 = 1#1), ∀ a, (k0_off20 arg10_r0) a + S1x80x10000.size a ≤ S10x80x10000.size a)
theorem k0_off19_inb : ∀ (arg6_r0 : BitVec 32) (arg7_r0 : BitVec 32) (arg8_r0 : BitVec 32) (arg9_r0 : BitVec 32) (arg10_r0 : BitVec 32) (k0_hw11 : k0_chk11 arg6_r0 arg7_r0 arg8_r0 arg9_r0 arg10_r0), ∀ (k0_h6 : k0_cond6 arg6_r0 arg7_r0 arg8_r0 arg9_r0 = 1#1), ∀ a, (k0_off19 arg10_r0) a + S1.size a ≤ S10.size a := fun arg6_r0 arg7_r0 arg8_r0 arg9_r0 arg10_r0 k0_hw11 k0_h6 => k0_hw11.1 k0_h6
theorem k0_off20_inb : ∀ (arg6_r0 : BitVec 32) (arg7_r0 : BitVec 32) (arg8_r0 : BitVec 32) (arg9_r0 : BitVec 32) (arg10_r0 : BitVec 32) (k0_hw11 : k0_chk11 arg6_r0 arg7_r0 arg8_r0 arg9_r0 arg10_r0), ∀ (k0_h6 : k0_cond6 arg6_r0 arg7_r0 arg8_r0 arg9_r0 = 1#1), ∀ a, (k0_off20 arg10_r0) a + S1x80x10000.size a ≤ S10x80x10000.size a := fun arg6_r0 arg7_r0 arg8_r0 arg9_r0 arg10_r0 k0_hw11 k0_h6 => k0_hw11.2 k0_h6

def k0_off21 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk12 (arg6_r0 : BitVec 32) (arg7_r0 : BitVec 32) (arg8_r0 : BitVec 32) (arg9_r0 : BitVec 32) : Prop :=
  (∀ (k0_h6 : k0_cond6 arg6_r0 arg7_r0 arg8_r0 arg9_r0 = 1#1), ∀ a, (k0_off21 arg8_r0 arg9_r0) a + S80x10000.size a ≤ S10000x10000.size a)
theorem k0_off21_inb : ∀ (arg6_r0 : BitVec 32) (arg7_r0 : BitVec 32) (arg8_r0 : BitVec 32) (arg9_r0 : BitVec 32) (k0_hw12 : k0_chk12 arg6_r0 arg7_r0 arg8_r0 arg9_r0), ∀ (k0_h6 : k0_cond6 arg6_r0 arg7_r0 arg8_r0 arg9_r0 = 1#1), ∀ a, (k0_off21 arg8_r0 arg9_r0) a + S80x10000.size a ≤ S10000x10000.size a := fun arg6_r0 arg7_r0 arg8_r0 arg9_r0 k0_hw12 k0_h6 => k0_hw12 k0_h6

def k0_off22 (arg10_r0 : BitVec 32) : Fin 1 → Nat :=
  let c10_i32_332_r0 : BitVec 32 := 10#32
  let v376_r0 : BitVec 32 := Scalar.remui arg10_r0 c10_i32_332_r0
  ![v376_r0.toNat]
def k0_cond7 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off23 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk13 (arg6_r0 : BitVec 32) (arg7_r0 : BitVec 32) (arg8_r0 : BitVec 32) (arg9_r0 : BitVec 32) (arg10_r0 : BitVec 32) : Prop :=
  (∀ (k0_h7 : k0_cond7 arg6_r0 arg7_r0 arg8_r0 arg9_r0 = 1#1), ∀ a, (k0_off22 arg10_r0) a + S1.size a ≤ S10.size a) ∧
  (∀ (k0_h7 : k0_cond7 arg6_r0 arg7_r0 arg8_r0 arg9_r0 = 1#1), ∀ a, (k0_off23 arg10_r0) a + S1x80x10000.size a ≤ S10x80x10000.size a)
theorem k0_off22_inb : ∀ (arg6_r0 : BitVec 32) (arg7_r0 : BitVec 32) (arg8_r0 : BitVec 32) (arg9_r0 : BitVec 32) (arg10_r0 : BitVec 32) (k0_hw13 : k0_chk13 arg6_r0 arg7_r0 arg8_r0 arg9_r0 arg10_r0), ∀ (k0_h7 : k0_cond7 arg6_r0 arg7_r0 arg8_r0 arg9_r0 = 1#1), ∀ a, (k0_off22 arg10_r0) a + S1.size a ≤ S10.size a := fun arg6_r0 arg7_r0 arg8_r0 arg9_r0 arg10_r0 k0_hw13 k0_h7 => k0_hw13.1 k0_h7
theorem k0_off23_inb : ∀ (arg6_r0 : BitVec 32) (arg7_r0 : BitVec 32) (arg8_r0 : BitVec 32) (arg9_r0 : BitVec 32) (arg10_r0 : BitVec 32) (k0_hw13 : k0_chk13 arg6_r0 arg7_r0 arg8_r0 arg9_r0 arg10_r0), ∀ (k0_h7 : k0_cond7 arg6_r0 arg7_r0 arg8_r0 arg9_r0 = 1#1), ∀ a, (k0_off23 arg10_r0) a + S1x80x10000.size a ≤ S10x80x10000.size a := fun arg6_r0 arg7_r0 arg8_r0 arg9_r0 arg10_r0 k0_hw13 k0_h7 => k0_hw13.2 k0_h7

def k0_off24 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk14 (arg6_r0 : BitVec 32) (arg7_r0 : BitVec 32) (arg8_r0 : BitVec 32) (arg9_r0 : BitVec 32) : Prop :=
  (∀ (k0_h7 : k0_cond7 arg6_r0 arg7_r0 arg8_r0 arg9_r0 = 1#1), ∀ a, (k0_off24 arg8_r0 arg9_r0) a + S80x10000.size a ≤ S10000x10000.size a)
theorem k0_off24_inb : ∀ (arg6_r0 : BitVec 32) (arg7_r0 : BitVec 32) (arg8_r0 : BitVec 32) (arg9_r0 : BitVec 32) (k0_hw14 : k0_chk14 arg6_r0 arg7_r0 arg8_r0 arg9_r0), ∀ (k0_h7 : k0_cond7 arg6_r0 arg7_r0 arg8_r0 arg9_r0 = 1#1), ∀ a, (k0_off24 arg8_r0 arg9_r0) a + S80x10000.size a ≤ S10000x10000.size a := fun arg6_r0 arg7_r0 arg8_r0 arg9_r0 k0_hw14 k0_h7 => k0_hw14 k0_h7

def k0_off25 (arg10_r0 : BitVec 32) : Fin 1 → Nat :=
  let c10_i32_332_r0 : BitVec 32 := 10#32
  let v376_r0 : BitVec 32 := Scalar.remui arg10_r0 c10_i32_332_r0
  ![v376_r0.toNat]
def k0_cond8 (arg6_r0 : BitVec 32) (arg7_r0 : BitVec 32) (arg8_r0 : BitVec 32) (arg9_r0 : BitVec 32) : BitVec 1 :=
  let c0_i32_318_r0 : BitVec 32 := 0#32
  let v356_r0 : BitVec 32 := Scalar.addi arg6_r0 c0_i32_318_r0
  let c5_i32_322_r0 : BitVec 32 := 5#32
  let v360_r0 : BitVec 32 := Scalar.muli v356_r0 c5_i32_322_r0
  let c0_i32_319_r0 : BitVec 32 := 0#32
  let v357_r0 : BitVec 32 := Scalar.addi arg7_r0 c0_i32_319_r0
  let v361_r0 : BitVec 32 := Scalar.addi v360_r0 v357_r0
  let c0_i32_320_r0 : BitVec 32 := 0#32
  let v358_r0 : BitVec 32 := Scalar.addi arg8_r0 c0_i32_320_r0
  let c5_i32_323_r0 : BitVec 32 := 5#32
  let v362_r0 : BitVec 32 := Scalar.muli v358_r0 c5_i32_323_r0
  let c0_i32_321_r0 : BitVec 32 := 0#32
  let v359_r0 : BitVec 32 := Scalar.addi arg9_r0 c0_i32_321_r0
  let v363_r0 : BitVec 32 := Scalar.addi v362_r0 v359_r0
  let v364_r0 : BitVec 1 := Scalar.cmpi .ne v361_r0 v363_r0
  let v365_r0 : BitVec 32 := Scalar.extui v364_r0
  let c0_i32_324_r0 : BitVec 32 := 0#32
  let v366_r0 : BitVec 1 := Scalar.cmpi .ne v365_r0 c0_i32_324_r0
  v366_r0

def k0_off26 (arg10_r0 : BitVec 32) : Fin 3 → Nat :=
  let c10_i32_332_r0 : BitVec 32 := 10#32
  let v376_r0 : BitVec 32 := Scalar.remui arg10_r0 c10_i32_332_r0
  let c0_i32_335_r0 : BitVec 32 := 0#32
  let c0_i32_336_r0 : BitVec 32 := 0#32
  ![v376_r0.toNat, 0, 0]

def k0_chk15 (arg6_r0 : BitVec 32) (arg7_r0 : BitVec 32) (arg8_r0 : BitVec 32) (arg9_r0 : BitVec 32) (arg10_r0 : BitVec 32) : Prop :=
  (∀ (k0_h8 : k0_cond8 arg6_r0 arg7_r0 arg8_r0 arg9_r0 = 1#1), ∀ a, (k0_off25 arg10_r0) a + S1.size a ≤ S10.size a) ∧
  (∀ (k0_h8 : k0_cond8 arg6_r0 arg7_r0 arg8_r0 arg9_r0 = 1#1), ∀ a, (k0_off26 arg10_r0) a + S1x80x10000.size a ≤ S10x80x10000.size a)
theorem k0_off25_inb : ∀ (arg6_r0 : BitVec 32) (arg7_r0 : BitVec 32) (arg8_r0 : BitVec 32) (arg9_r0 : BitVec 32) (arg10_r0 : BitVec 32) (k0_hw15 : k0_chk15 arg6_r0 arg7_r0 arg8_r0 arg9_r0 arg10_r0), ∀ (k0_h8 : k0_cond8 arg6_r0 arg7_r0 arg8_r0 arg9_r0 = 1#1), ∀ a, (k0_off25 arg10_r0) a + S1.size a ≤ S10.size a := fun arg6_r0 arg7_r0 arg8_r0 arg9_r0 arg10_r0 k0_hw15 k0_h8 => k0_hw15.1 k0_h8
theorem k0_off26_inb : ∀ (arg6_r0 : BitVec 32) (arg7_r0 : BitVec 32) (arg8_r0 : BitVec 32) (arg9_r0 : BitVec 32) (arg10_r0 : BitVec 32) (k0_hw15 : k0_chk15 arg6_r0 arg7_r0 arg8_r0 arg9_r0 arg10_r0), ∀ (k0_h8 : k0_cond8 arg6_r0 arg7_r0 arg8_r0 arg9_r0 = 1#1), ∀ a, (k0_off26 arg10_r0) a + S1x80x10000.size a ≤ S10x80x10000.size a := fun arg6_r0 arg7_r0 arg8_r0 arg9_r0 arg10_r0 k0_hw15 k0_h8 => k0_hw15.2 k0_h8

def k0_off27 (arg8_r0 : BitVec 32) (arg9_r0 : BitVec 32) : Fin 2 → Nat :=
  let c80_i32_334_r0 : BitVec 32 := 80#32
  let c0_i32_320_r0 : BitVec 32 := 0#32
  let v358_r0 : BitVec 32 := Scalar.addi arg8_r0 c0_i32_320_r0
  let c5_i32_333_r0 : BitVec 32 := 5#32
  let v377_r0 : BitVec 32 := Scalar.muli v358_r0 c5_i32_333_r0
  let c0_i32_321_r0 : BitVec 32 := 0#32
  let v359_r0 : BitVec 32 := Scalar.addi arg9_r0 c0_i32_321_r0
  let v378_r0 : BitVec 32 := Scalar.addi v377_r0 v359_r0
  let v379_r0 : BitVec 32 := Scalar.muli c80_i32_334_r0 v378_r0
  let c0_i32_337_r0 : BitVec 32 := 0#32
  ![v379_r0.toNat, 0]

def k0_chk16 (arg6_r0 : BitVec 32) (arg7_r0 : BitVec 32) (arg8_r0 : BitVec 32) (arg9_r0 : BitVec 32) : Prop :=
  (∀ (k0_h8 : k0_cond8 arg6_r0 arg7_r0 arg8_r0 arg9_r0 = 1#1), ∀ a, (k0_off27 arg8_r0 arg9_r0) a + S80x10000.size a ≤ S10000x10000.size a)
theorem k0_off27_inb : ∀ (arg6_r0 : BitVec 32) (arg7_r0 : BitVec 32) (arg8_r0 : BitVec 32) (arg9_r0 : BitVec 32) (k0_hw16 : k0_chk16 arg6_r0 arg7_r0 arg8_r0 arg9_r0), ∀ (k0_h8 : k0_cond8 arg6_r0 arg7_r0 arg8_r0 arg9_r0 = 1#1), ∀ a, (k0_off27 arg8_r0 arg9_r0) a + S80x10000.size a ≤ S10000x10000.size a := fun arg6_r0 arg7_r0 arg8_r0 arg9_r0 k0_hw16 k0_h8 => k0_hw16 k0_h8

@[reducible] def k0_t1_loop : Scf.Loop 32 :=
  let c0_i32_202_r0 : BitVec 32 := 0#32
  let c125_i32_r0 : BitVec 32 := 125#32
  let v225_r0 : BitVec 32 := Scalar.addi c0_i32_202_r0 c125_i32_r0
  let c1_i32_203_r0 : BitVec 32 := 1#32
  ⟨c0_i32_202_r0, v225_r0, c1_i32_203_r0⟩
def k0_off28 (arg19_r0 : BitVec 32) : Fin 1 → Nat :=
  let c10_i32_488_r0 : BitVec 32 := 10#32
  let v589_r0 : BitVec 32 := Scalar.remui arg19_r0 c10_i32_488_r0
  ![v589_r0.toNat]
def k0_cond9 (arg15_r0 : BitVec 32) (arg16_r0 : BitVec 32) (arg17_r0 : BitVec 32) (arg18_r0 : BitVec 32) : BitVec 1 :=
  let c0_i32_474_r0 : BitVec 32 := 0#32
  let v569_r0 : BitVec 32 := Scalar.addi arg15_r0 c0_i32_474_r0
  let c5_i32_478_r0 : BitVec 32 := 5#32
  let v573_r0 : BitVec 32 := Scalar.muli v569_r0 c5_i32_478_r0
  let c0_i32_475_r0 : BitVec 32 := 0#32
  let v570_r0 : BitVec 32 := Scalar.addi arg16_r0 c0_i32_475_r0
  let v574_r0 : BitVec 32 := Scalar.addi v573_r0 v570_r0
  let c0_i32_476_r0 : BitVec 32 := 0#32
  let v571_r0 : BitVec 32 := Scalar.addi arg17_r0 c0_i32_476_r0
  let c5_i32_479_r0 : BitVec 32 := 5#32
  let v575_r0 : BitVec 32 := Scalar.muli v571_r0 c5_i32_479_r0
  let c0_i32_477_r0 : BitVec 32 := 0#32
  let v572_r0 : BitVec 32 := Scalar.addi arg18_r0 c0_i32_477_r0
  let v576_r0 : BitVec 32 := Scalar.addi v575_r0 v572_r0
  let v577_r0 : BitVec 1 := Scalar.cmpi .ne v574_r0 v576_r0
  let v578_r0 : BitVec 32 := Scalar.extui v577_r0
  let c0_i32_480_r0 : BitVec 32 := 0#32
  let v579_r0 : BitVec 1 := Scalar.cmpi .ne v578_r0 c0_i32_480_r0
  v579_r0

def k0_off29 (arg19_r0 : BitVec 32) : Fin 3 → Nat :=
  let c10_i32_488_r0 : BitVec 32 := 10#32
  let v589_r0 : BitVec 32 := Scalar.remui arg19_r0 c10_i32_488_r0
  let c0_i32_491_r0 : BitVec 32 := 0#32
  let c0_i32_492_r0 : BitVec 32 := 0#32
  ![v589_r0.toNat, 0, 0]

def k0_chk17 (arg15_r0 : BitVec 32) (arg16_r0 : BitVec 32) (arg17_r0 : BitVec 32) (arg18_r0 : BitVec 32) (arg19_r0 : BitVec 32) : Prop :=
  (∀ (k0_h9 : k0_cond9 arg15_r0 arg16_r0 arg17_r0 arg18_r0 = 1#1), ∀ a, (k0_off28 arg19_r0) a + S1.size a ≤ S10.size a) ∧
  (∀ (k0_h9 : k0_cond9 arg15_r0 arg16_r0 arg17_r0 arg18_r0 = 1#1), ∀ a, (k0_off29 arg19_r0) a + S1x80x10000.size a ≤ S10x80x10000.size a)
theorem k0_off28_inb : ∀ (arg15_r0 : BitVec 32) (arg16_r0 : BitVec 32) (arg17_r0 : BitVec 32) (arg18_r0 : BitVec 32) (arg19_r0 : BitVec 32) (k0_hw17 : k0_chk17 arg15_r0 arg16_r0 arg17_r0 arg18_r0 arg19_r0), ∀ (k0_h9 : k0_cond9 arg15_r0 arg16_r0 arg17_r0 arg18_r0 = 1#1), ∀ a, (k0_off28 arg19_r0) a + S1.size a ≤ S10.size a := fun arg15_r0 arg16_r0 arg17_r0 arg18_r0 arg19_r0 k0_hw17 k0_h9 => k0_hw17.1 k0_h9
theorem k0_off29_inb : ∀ (arg15_r0 : BitVec 32) (arg16_r0 : BitVec 32) (arg17_r0 : BitVec 32) (arg18_r0 : BitVec 32) (arg19_r0 : BitVec 32) (k0_hw17 : k0_chk17 arg15_r0 arg16_r0 arg17_r0 arg18_r0 arg19_r0), ∀ (k0_h9 : k0_cond9 arg15_r0 arg16_r0 arg17_r0 arg18_r0 = 1#1), ∀ a, (k0_off29 arg19_r0) a + S1x80x10000.size a ≤ S10x80x10000.size a := fun arg15_r0 arg16_r0 arg17_r0 arg18_r0 arg19_r0 k0_hw17 k0_h9 => k0_hw17.2 k0_h9

def k0_off30 (arg17_r0 : BitVec 32) (arg18_r0 : BitVec 32) : Fin 2 → Nat :=
  let c80_i32_490_r0 : BitVec 32 := 80#32
  let c0_i32_476_r0 : BitVec 32 := 0#32
  let v571_r0 : BitVec 32 := Scalar.addi arg17_r0 c0_i32_476_r0
  let c5_i32_489_r0 : BitVec 32 := 5#32
  let v590_r0 : BitVec 32 := Scalar.muli v571_r0 c5_i32_489_r0
  let c0_i32_477_r0 : BitVec 32 := 0#32
  let v572_r0 : BitVec 32 := Scalar.addi arg18_r0 c0_i32_477_r0
  let v591_r0 : BitVec 32 := Scalar.addi v590_r0 v572_r0
  let v592_r0 : BitVec 32 := Scalar.muli c80_i32_490_r0 v591_r0
  let c0_i32_493_r0 : BitVec 32 := 0#32
  ![v592_r0.toNat, 0]

def k0_chk18 (arg15_r0 : BitVec 32) (arg16_r0 : BitVec 32) (arg17_r0 : BitVec 32) (arg18_r0 : BitVec 32) : Prop :=
  (∀ (k0_h9 : k0_cond9 arg15_r0 arg16_r0 arg17_r0 arg18_r0 = 1#1), ∀ a, (k0_off30 arg17_r0 arg18_r0) a + S80x10000.size a ≤ S10000x10000.size a)
theorem k0_off30_inb : ∀ (arg15_r0 : BitVec 32) (arg16_r0 : BitVec 32) (arg17_r0 : BitVec 32) (arg18_r0 : BitVec 32) (k0_hw18 : k0_chk18 arg15_r0 arg16_r0 arg17_r0 arg18_r0), ∀ (k0_h9 : k0_cond9 arg15_r0 arg16_r0 arg17_r0 arg18_r0 = 1#1), ∀ a, (k0_off30 arg17_r0 arg18_r0) a + S80x10000.size a ≤ S10000x10000.size a := fun arg15_r0 arg16_r0 arg17_r0 arg18_r0 k0_hw18 k0_h9 => k0_hw18 k0_h9

def k0_off31 (arg8_r0 : BitVec 32) : Fin 1 → Nat :=
  let c10_i32_476_r0 : BitVec 32 := 10#32
  let v572_r0 : BitVec 32 := Scalar.remui arg8_r0 c10_i32_476_r0
  ![v572_r0.toNat]
def k0_cond10 (k0_t1 : Fin k0_t1_loop.trips) (arg13_r0 : BitVec 32) (arg14_r0 : BitVec 32) : BitVec 1 :=
  let c0_i32_319_r0 : BitVec 32 := 0#32
  let v358_r0 : BitVec 32 := Scalar.addi arg13_r0 c0_i32_319_r0
  let c5_i32_435_r0 : BitVec 32 := 5#32
  let v495_r0 : BitVec 32 := Scalar.muli v358_r0 c5_i32_435_r0
  let c0_i32_320_r0 : BitVec 32 := 0#32
  let v359_r0 : BitVec 32 := Scalar.addi arg14_r0 c0_i32_320_r0
  let v496_r0 : BitVec 32 := Scalar.addi v495_r0 v359_r0
  let true_322_r0 : BitVec 1 := 1#1
  let c1_i32_321_r0 : BitVec 32 := 1#32
  let v360_r0 : BitVec 32 := Scalar.subi arg14_r0 c1_i32_321_r0
  let v361_r0 : BitVec 32 := Scalar.select true_322_r0 v360_r0 arg14_r0
  let c_m1_i32_323_r0 : BitVec 32 := 4294967295#32
  let v362_r0 : BitVec 1 := Scalar.cmpi .eq v361_r0 c_m1_i32_323_r0
  let c1_i32_325_r0 : BitVec 32 := 1#32
  let v364_r0 : BitVec 32 := Scalar.subi arg13_r0 c1_i32_325_r0
  let v365_r0 : BitVec 32 := Scalar.select v362_r0 v364_r0 arg13_r0
  let c_m1_i32_326_r0 : BitVec 32 := 4294967295#32
  let v366_r0 : BitVec 1 := Scalar.cmpi .eq v365_r0 c_m1_i32_326_r0
  let c24_i32_327_r0 : BitVec 32 := 24#32
  let v367_r0 : BitVec 32 := Scalar.select v366_r0 c24_i32_327_r0 v365_r0
  let c0_i32_328_r0 : BitVec 32 := 0#32
  let v368_r0 : BitVec 32 := Scalar.addi v367_r0 c0_i32_328_r0
  let c5_i32_436_r0 : BitVec 32 := 5#32
  let v497_r0 : BitVec 32 := Scalar.muli v368_r0 c5_i32_436_r0
  let c4_i32_324_r0 : BitVec 32 := 4#32
  let v363_r0 : BitVec 32 := Scalar.select v362_r0 c4_i32_324_r0 v361_r0
  let c0_i32_329_r0 : BitVec 32 := 0#32
  let v369_r0 : BitVec 32 := Scalar.addi v363_r0 c0_i32_329_r0
  let v498_r0 : BitVec 32 := Scalar.addi v497_r0 v369_r0
  let v499_r0 : BitVec 1 := Scalar.cmpi .ne v496_r0 v498_r0
  let c0_i32_202_r0 : BitVec 32 := 0#32
  let c1_i32_203_r0 : BitVec 32 := 1#32
  let arg6_r0 : BitVec 32 := Scf.iv c0_i32_202_r0 c1_i32_203_r0 k0_t1
  let c0_i32_318_r0 : BitVec 32 := 0#32
  let v356_r0 : BitVec 1 := Scalar.cmpi .eq arg6_r0 c0_i32_318_r0
  let v500_r0 : BitVec 1 := Scalar.ori v499_r0 v356_r0
  let c0_i32_437_r0 : BitVec 32 := 0#32
  let v501_r0 : BitVec 1 := Scalar.cmpi .sge arg6_r0 c0_i32_437_r0
  let v502_r0 : BitVec 1 := Scalar.andi v500_r0 v501_r0
  let v503_r0 : BitVec 32 := Scalar.extui v502_r0
  let c0_i32_438_r0 : BitVec 32 := 0#32
  let v504_r0 : BitVec 1 := Scalar.cmpi .ne v503_r0 c0_i32_438_r0
  v504_r0

def k0_off32 (arg8_r0 : BitVec 32) : Fin 3 → Nat :=
  let c10_i32_476_r0 : BitVec 32 := 10#32
  let v572_r0 : BitVec 32 := Scalar.remui arg8_r0 c10_i32_476_r0
  let c0_i32_477_r0 : BitVec 32 := 0#32
  let c0_i32_478_r0 : BitVec 32 := 0#32
  ![v572_r0.toNat, 0, 0]
def k0_off33 (arg13_r0 : BitVec 32) (arg14_r0 : BitVec 32) : Fin 2 → Nat :=
  let c80_i32_475_r0 : BitVec 32 := 80#32
  let c0_i32_319_r0 : BitVec 32 := 0#32
  let v358_r0 : BitVec 32 := Scalar.addi arg13_r0 c0_i32_319_r0
  let c5_i32_474_r0 : BitVec 32 := 5#32
  let v569_r0 : BitVec 32 := Scalar.muli v358_r0 c5_i32_474_r0
  let c0_i32_320_r0 : BitVec 32 := 0#32
  let v359_r0 : BitVec 32 := Scalar.addi arg14_r0 c0_i32_320_r0
  let v570_r0 : BitVec 32 := Scalar.addi v569_r0 v359_r0
  let v571_r0 : BitVec 32 := Scalar.muli c80_i32_475_r0 v570_r0
  let c0_i32_479_r0 : BitVec 32 := 0#32
  ![v571_r0.toNat, 0]
def k0_off34 (arg8_r0 : BitVec 32) : Fin 3 → Nat :=
  let c10_i32_442_r0 : BitVec 32 := 10#32
  let v513_r0 : BitVec 32 := Scalar.remui arg8_r0 c10_i32_442_r0
  let v515_r0 : Index := Scalar.indexCast v513_r0
  let c0_444_r0 : Index := 0#32
  let c0_445_r0 : Index := 0#32
  ![v515_r0.toNat, 0, 0]

def k0_chk20 (arg8_r0 : BitVec 32) : Prop :=
  (∀ a, (k0_off34 arg8_r0) a + S1x80x10000.size a ≤ S10x80x10000.size a)
theorem k0_off34_inb : ∀ (arg8_r0 : BitVec 32) (k0_hw20 : k0_chk20 arg8_r0), ∀ a, (k0_off34 arg8_r0) a + S1x80x10000.size a ≤ S10x80x10000.size a := fun arg8_r0 k0_hw20 => k0_hw20

def k0_off35 (arg11_r0 : BitVec 32) : Fin 3 → Nat :=
  let c2_i32_443_r0 : BitVec 32 := 2#32
  let v514_r0 : BitVec 32 := Scalar.remui arg11_r0 c2_i32_443_r0
  let v525_r0 : Index := Scalar.indexCast v514_r0
  let c0_451_r0 : Index := 0#32
  let c0_452_r0 : Index := 0#32
  ![v525_r0.toNat, 0, 0]

def k0_chk21 (arg11_r0 : BitVec 32) : Prop :=
  (∀ a, (k0_off35 arg11_r0) a + S1x80x256.size a ≤ S2x80x256.size a)
theorem k0_off35_inb : ∀ (arg11_r0 : BitVec 32) (k0_hw21 : k0_chk21 arg11_r0), ∀ a, (k0_off35 arg11_r0) a + S1x80x256.size a ≤ S2x80x256.size a := fun arg11_r0 k0_hw21 => k0_hw21

def k0_off36 (arg11_r0 : BitVec 32) : Fin 1 → Nat :=
  let c2_i32_474_r0 : BitVec 32 := 2#32
  let v569_r0 : BitVec 32 := Scalar.remui arg11_r0 c2_i32_474_r0
  ![v569_r0.toNat]
def k0_cond13 (k0_t1 : Fin k0_t1_loop.trips) (arg13_r0 : BitVec 32) (arg14_r0 : BitVec 32) : BitVec 1 :=
  let c0_i32_319_r0 : BitVec 32 := 0#32
  let v358_r0 : BitVec 32 := Scalar.addi arg13_r0 c0_i32_319_r0
  let c5_i32_431_r0 : BitVec 32 := 5#32
  let v487_r0 : BitVec 32 := Scalar.muli v358_r0 c5_i32_431_r0
  let c0_i32_320_r0 : BitVec 32 := 0#32
  let v359_r0 : BitVec 32 := Scalar.addi arg14_r0 c0_i32_320_r0
  let v488_r0 : BitVec 32 := Scalar.addi v487_r0 v359_r0
  let true_331_r0 : BitVec 1 := 1#1
  let c1_i32_330_r0 : BitVec 32 := 1#32
  let v370_r0 : BitVec 32 := Scalar.addi arg14_r0 c1_i32_330_r0
  let v371_r0 : BitVec 32 := Scalar.select true_331_r0 v370_r0 arg14_r0
  let c5_i32_332_r0 : BitVec 32 := 5#32
  let v372_r0 : BitVec 1 := Scalar.cmpi .eq v371_r0 c5_i32_332_r0
  let c1_i32_334_r0 : BitVec 32 := 1#32
  let v374_r0 : BitVec 32 := Scalar.addi arg13_r0 c1_i32_334_r0
  let v375_r0 : BitVec 32 := Scalar.select v372_r0 v374_r0 arg13_r0
  let c25_i32_335_r0 : BitVec 32 := 25#32
  let v376_r0 : BitVec 1 := Scalar.cmpi .eq v375_r0 c25_i32_335_r0
  let c0_i32_336_r0 : BitVec 32 := 0#32
  let v377_r0 : BitVec 32 := Scalar.select v376_r0 c0_i32_336_r0 v375_r0
  let c0_i32_337_r0 : BitVec 32 := 0#32
  let v378_r0 : BitVec 32 := Scalar.addi v377_r0 c0_i32_337_r0
  let c5_i32_432_r0 : BitVec 32 := 5#32
  let v489_r0 : BitVec 32 := Scalar.muli v378_r0 c5_i32_432_r0
  let c0_i32_333_r0 : BitVec 32 := 0#32
  let v373_r0 : BitVec 32 := Scalar.select v372_r0 c0_i32_333_r0 v371_r0
  let c0_i32_338_r0 : BitVec 32 := 0#32
  let v379_r0 : BitVec 32 := Scalar.addi v373_r0 c0_i32_338_r0
  let v490_r0 : BitVec 32 := Scalar.addi v489_r0 v379_r0
  let v536_r0 : BitVec 1 := Scalar.cmpi .ne v488_r0 v490_r0
  let c0_i32_202_r0 : BitVec 32 := 0#32
  let c1_i32_203_r0 : BitVec 32 := 1#32
  let arg6_r0 : BitVec 32 := Scf.iv c0_i32_202_r0 c1_i32_203_r0 k0_t1
  let c124_i32_r0 : BitVec 32 := 124#32
  let v357_r0 : BitVec 1 := Scalar.cmpi .eq arg6_r0 c124_i32_r0
  let v537_r0 : BitVec 1 := Scalar.ori v536_r0 v357_r0
  let v538_r0 : BitVec 32 := Scalar.extui v537_r0
  let c0_i32_456_r0 : BitVec 32 := 0#32
  let v539_r0 : BitVec 1 := Scalar.cmpi .ne v538_r0 c0_i32_456_r0
  v539_r0

def k0_off37 (arg13_r0 : BitVec 32) (arg14_r0 : BitVec 32) : Fin 2 → Nat :=
  let c80_i32_476_r0 : BitVec 32 := 80#32
  let c0_i32_319_r0 : BitVec 32 := 0#32
  let v358_r0 : BitVec 32 := Scalar.addi arg13_r0 c0_i32_319_r0
  let c5_i32_475_r0 : BitVec 32 := 5#32
  let v570_r0 : BitVec 32 := Scalar.muli v358_r0 c5_i32_475_r0
  let c0_i32_320_r0 : BitVec 32 := 0#32
  let v359_r0 : BitVec 32 := Scalar.addi arg14_r0 c0_i32_320_r0
  let v571_r0 : BitVec 32 := Scalar.addi v570_r0 v359_r0
  let v572_r0 : BitVec 32 := Scalar.muli c80_i32_476_r0 v571_r0
  let c0_i32_477_r0 : BitVec 32 := 0#32
  ![v572_r0.toNat, 0]
def k0_off38 (arg11_r0 : BitVec 32) : Fin 3 → Nat :=
  let c2_i32_474_r0 : BitVec 32 := 2#32
  let v569_r0 : BitVec 32 := Scalar.remui arg11_r0 c2_i32_474_r0
  let c0_i32_478_r0 : BitVec 32 := 0#32
  let c0_i32_479_r0 : BitVec 32 := 0#32
  ![v569_r0.toNat, 0, 0]
def k0_off39 (arg12_r0 : BitVec 32) : Fin 1 → Nat :=
  let c2_i32_474_r0 : BitVec 32 := 2#32
  let v569_r0 : BitVec 32 := Scalar.remui arg12_r0 c2_i32_474_r0
  ![v569_r0.toNat]
def k0_cond15 (k0_t1 : Fin k0_t1_loop.trips) (arg13_r0 : BitVec 32) (arg14_r0 : BitVec 32) : BitVec 1 :=
  let c0_i32_319_r0 : BitVec 32 := 0#32
  let v358_r0 : BitVec 32 := Scalar.addi arg13_r0 c0_i32_319_r0
  let c5_i32_431_r0 : BitVec 32 := 5#32
  let v487_r0 : BitVec 32 := Scalar.muli v358_r0 c5_i32_431_r0
  let c0_i32_320_r0 : BitVec 32 := 0#32
  let v359_r0 : BitVec 32 := Scalar.addi arg14_r0 c0_i32_320_r0
  let v488_r0 : BitVec 32 := Scalar.addi v487_r0 v359_r0
  let true_322_r0 : BitVec 1 := 1#1
  let c1_i32_321_r0 : BitVec 32 := 1#32
  let v360_r0 : BitVec 32 := Scalar.subi arg14_r0 c1_i32_321_r0
  let v361_r0 : BitVec 32 := Scalar.select true_322_r0 v360_r0 arg14_r0
  let c_m1_i32_323_r0 : BitVec 32 := 4294967295#32
  let v362_r0 : BitVec 1 := Scalar.cmpi .eq v361_r0 c_m1_i32_323_r0
  let c1_i32_325_r0 : BitVec 32 := 1#32
  let v364_r0 : BitVec 32 := Scalar.subi arg13_r0 c1_i32_325_r0
  let v365_r0 : BitVec 32 := Scalar.select v362_r0 v364_r0 arg13_r0
  let c_m1_i32_326_r0 : BitVec 32 := 4294967295#32
  let v366_r0 : BitVec 1 := Scalar.cmpi .eq v365_r0 c_m1_i32_326_r0
  let c24_i32_327_r0 : BitVec 32 := 24#32
  let v367_r0 : BitVec 32 := Scalar.select v366_r0 c24_i32_327_r0 v365_r0
  let c0_i32_328_r0 : BitVec 32 := 0#32
  let v368_r0 : BitVec 32 := Scalar.addi v367_r0 c0_i32_328_r0
  let c5_i32_439_r0 : BitVec 32 := 5#32
  let v505_r0 : BitVec 32 := Scalar.muli v368_r0 c5_i32_439_r0
  let c4_i32_324_r0 : BitVec 32 := 4#32
  let v363_r0 : BitVec 32 := Scalar.select v362_r0 c4_i32_324_r0 v361_r0
  let c0_i32_329_r0 : BitVec 32 := 0#32
  let v369_r0 : BitVec 32 := Scalar.addi v363_r0 c0_i32_329_r0
  let v506_r0 : BitVec 32 := Scalar.addi v505_r0 v369_r0
  let v549_r0 : BitVec 1 := Scalar.cmpi .ne v488_r0 v506_r0
  let c0_i32_202_r0 : BitVec 32 := 0#32
  let c1_i32_203_r0 : BitVec 32 := 1#32
  let arg6_r0 : BitVec 32 := Scf.iv c0_i32_202_r0 c1_i32_203_r0 k0_t1
  let c0_i32_318_r0 : BitVec 32 := 0#32
  let v356_r0 : BitVec 1 := Scalar.cmpi .eq arg6_r0 c0_i32_318_r0
  let true_462_r0 : BitVec 1 := 1#1
  let v550_r0 : BitVec 1 := Scalar.xori v356_r0 true_462_r0
  let v551_r0 : BitVec 1 := Scalar.andi v549_r0 v550_r0
  let v552_r0 : BitVec 32 := Scalar.extui v551_r0
  let c0_i32_463_r0 : BitVec 32 := 0#32
  let v553_r0 : BitVec 1 := Scalar.cmpi .ne v552_r0 c0_i32_463_r0
  v553_r0

def k0_off40 (arg13_r0 : BitVec 32) (arg14_r0 : BitVec 32) : Fin 2 → Nat :=
  let c80_i32_476_r0 : BitVec 32 := 80#32
  let true_322_r0 : BitVec 1 := 1#1
  let c1_i32_321_r0 : BitVec 32 := 1#32
  let v360_r0 : BitVec 32 := Scalar.subi arg14_r0 c1_i32_321_r0
  let v361_r0 : BitVec 32 := Scalar.select true_322_r0 v360_r0 arg14_r0
  let c_m1_i32_323_r0 : BitVec 32 := 4294967295#32
  let v362_r0 : BitVec 1 := Scalar.cmpi .eq v361_r0 c_m1_i32_323_r0
  let c1_i32_325_r0 : BitVec 32 := 1#32
  let v364_r0 : BitVec 32 := Scalar.subi arg13_r0 c1_i32_325_r0
  let v365_r0 : BitVec 32 := Scalar.select v362_r0 v364_r0 arg13_r0
  let c_m1_i32_326_r0 : BitVec 32 := 4294967295#32
  let v366_r0 : BitVec 1 := Scalar.cmpi .eq v365_r0 c_m1_i32_326_r0
  let c24_i32_327_r0 : BitVec 32 := 24#32
  let v367_r0 : BitVec 32 := Scalar.select v366_r0 c24_i32_327_r0 v365_r0
  let c0_i32_328_r0 : BitVec 32 := 0#32
  let v368_r0 : BitVec 32 := Scalar.addi v367_r0 c0_i32_328_r0
  let c5_i32_475_r0 : BitVec 32 := 5#32
  let v570_r0 : BitVec 32 := Scalar.muli v368_r0 c5_i32_475_r0
  let c4_i32_324_r0 : BitVec 32 := 4#32
  let v363_r0 : BitVec 32 := Scalar.select v362_r0 c4_i32_324_r0 v361_r0
  let c0_i32_329_r0 : BitVec 32 := 0#32
  let v369_r0 : BitVec 32 := Scalar.addi v363_r0 c0_i32_329_r0
  let v571_r0 : BitVec 32 := Scalar.addi v570_r0 v369_r0
  let v572_r0 : BitVec 32 := Scalar.muli c80_i32_476_r0 v571_r0
  let c0_i32_477_r0 : BitVec 32 := 0#32
  ![v572_r0.toNat, 0]
def k0_off41 (arg12_r0 : BitVec 32) : Fin 3 → Nat :=
  let c2_i32_474_r0 : BitVec 32 := 2#32
  let v569_r0 : BitVec 32 := Scalar.remui arg12_r0 c2_i32_474_r0
  let c0_i32_478_r0 : BitVec 32 := 0#32
  let c0_i32_479_r0 : BitVec 32 := 0#32
  ![v569_r0.toNat, 0, 0]

def k0_chk19 (k0_t1 : Fin k0_t1_loop.trips) (arg8_r0 : BitVec 32) (arg11_r0 : BitVec 32) (arg12_r0 : BitVec 32) (arg13_r0 : BitVec 32) (arg14_r0 : BitVec 32) : Prop :=
  (∀ (k0_h10 : k0_cond10 k0_t1 arg13_r0 arg14_r0 = 1#1), ∀ a, (k0_off31 arg8_r0) a + S1.size a ≤ S10.size a) ∧
  (∀ (k0_h10 : k0_cond10 k0_t1 arg13_r0 arg14_r0 = 1#1), ∀ a, (k0_off32 arg8_r0) a + S1x80x10000.size a ≤ S10x80x10000.size a) ∧
  (∀ (k0_h10 : k0_cond10 k0_t1 arg13_r0 arg14_r0 = 1#1), ∀ a, (k0_off33 arg13_r0 arg14_r0) a + S80x10000.size a ≤ S10000x10000.size a) ∧
  (∀ (k0_h13 : k0_cond13 k0_t1 arg13_r0 arg14_r0 = 1#1), ∀ a, (k0_off36 arg11_r0) a + S1.size a ≤ S2.size a) ∧
  (∀ (k0_h13 : k0_cond13 k0_t1 arg13_r0 arg14_r0 = 1#1), ∀ a, (k0_off37 arg13_r0 arg14_r0) a + S80x256.size a ≤ S10000x256.size a) ∧
  (∀ (k0_h13 : k0_cond13 k0_t1 arg13_r0 arg14_r0 = 1#1), ∀ a, (k0_off38 arg11_r0) a + S1x80x256.size a ≤ S2x80x256.size a) ∧
  (∀ (k0_h15 : k0_cond15 k0_t1 arg13_r0 arg14_r0 = 1#1), ∀ a, (k0_off39 arg12_r0) a + S1.size a ≤ S2.size a) ∧
  (∀ (k0_h15 : k0_cond15 k0_t1 arg13_r0 arg14_r0 = 1#1), ∀ a, (k0_off40 arg13_r0 arg14_r0) a + S80x256.size a ≤ S10000x256.size a) ∧
  (∀ (k0_h15 : k0_cond15 k0_t1 arg13_r0 arg14_r0 = 1#1), ∀ a, (k0_off41 arg12_r0) a + S1x80x256.size a ≤ S2x80x256.size a)
theorem k0_off31_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h10 : k0_cond10 k0_t1 arg13_r0 arg14_r0 = 1#1), ∀ a, (k0_off31 arg8_r0) a + S1.size a ≤ S10.size a := fun k0_t1 arg8_r0 arg11_r0 arg12_r0 arg13_r0 arg14_r0 k0_hw19 k0_h10 => k0_hw19.1 k0_h10
theorem k0_off32_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h10 : k0_cond10 k0_t1 arg13_r0 arg14_r0 = 1#1), ∀ a, (k0_off32 arg8_r0) a + S1x80x10000.size a ≤ S10x80x10000.size a := fun k0_t1 arg8_r0 arg11_r0 arg12_r0 arg13_r0 arg14_r0 k0_hw19 k0_h10 => k0_hw19.2.1 k0_h10
theorem k0_off33_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h10 : k0_cond10 k0_t1 arg13_r0 arg14_r0 = 1#1), ∀ a, (k0_off33 arg13_r0 arg14_r0) a + S80x10000.size a ≤ S10000x10000.size a := fun k0_t1 arg8_r0 arg11_r0 arg12_r0 arg13_r0 arg14_r0 k0_hw19 k0_h10 => k0_hw19.2.2.1 k0_h10
theorem k0_off36_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h13 : k0_cond13 k0_t1 arg13_r0 arg14_r0 = 1#1), ∀ a, (k0_off36 arg11_r0) a + S1.size a ≤ S2.size a := fun k0_t1 arg8_r0 arg11_r0 arg12_r0 arg13_r0 arg14_r0 k0_hw19 k0_h13 => k0_hw19.2.2.2.1 k0_h13
theorem k0_off37_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h13 : k0_cond13 k0_t1 arg13_r0 arg14_r0 = 1#1), ∀ a, (k0_off37 arg13_r0 arg14_r0) a + S80x256.size a ≤ S10000x256.size a := fun k0_t1 arg8_r0 arg11_r0 arg12_r0 arg13_r0 arg14_r0 k0_hw19 k0_h13 => k0_hw19.2.2.2.2.1 k0_h13
theorem k0_off38_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h13 : k0_cond13 k0_t1 arg13_r0 arg14_r0 = 1#1), ∀ a, (k0_off38 arg11_r0) a + S1x80x256.size a ≤ S2x80x256.size a := fun k0_t1 arg8_r0 arg11_r0 arg12_r0 arg13_r0 arg14_r0 k0_hw19 k0_h13 => k0_hw19.2.2.2.2.2.1 k0_h13
theorem k0_off39_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h15 : k0_cond15 k0_t1 arg13_r0 arg14_r0 = 1#1), ∀ a, (k0_off39 arg12_r0) a + S1.size a ≤ S2.size a := fun k0_t1 arg8_r0 arg11_r0 arg12_r0 arg13_r0 arg14_r0 k0_hw19 k0_h15 => k0_hw19.2.2.2.2.2.2.1 k0_h15
theorem k0_off40_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h15 : k0_cond15 k0_t1 arg13_r0 arg14_r0 = 1#1), ∀ a, (k0_off40 arg13_r0 arg14_r0) a + S80x256.size a ≤ S10000x256.size a := fun k0_t1 arg8_r0 arg11_r0 arg12_r0 arg13_r0 arg14_r0 k0_hw19 k0_h15 => k0_hw19.2.2.2.2.2.2.2.1 k0_h15
theorem k0_off41_inb : ∀ (k0_t1 : Fin k0_t1_loop.trips) (arg8_r0 : BitVec 32) (arg11_r0 : BitVec 32) (arg12_r0 : BitVec 32) (arg13_r0 : BitVec 32) (arg14_r0 : BitVec 32) (k0_hw19 : k0_chk19 k0_t1 arg8_r0 arg11_r0 arg12_r0 arg13_r0 arg14_r0), ∀ (k0_h15 : k0_cond15 k0_t1 arg13_r0 arg14_r0 = 1#1), ∀ a, (k0_off41 arg12_r0) a + S1x80x256.size a ≤ S2x80x256.size a := fun k0_t1 arg8_r0 arg11_r0 arg12_r0 arg13_r0 arg14_r0 k0_hw19 k0_h15 => k0_hw19.2.2.2.2.2.2.2.2 k0_h15

def k0_off42 (v226_5_r0 : BitVec 32) : Fin 1 → Nat :=
  let c2_i32_r0 : BitVec 32 := 2#32
  let v347_r0 : BitVec 32 := Scalar.remui v226_5_r0 c2_i32_r0
  ![v347_r0.toNat]

def k0_off43 (v226_7_r0 : BitVec 32) (v226_6_r0 : BitVec 32) : Fin 2 → Nat :=
  let c80_i32_314_r0 : BitVec 32 := 80#32
  let true_206_r0 : BitVec 1 := 1#1
  let c1_i32_205_r0 : BitVec 32 := 1#32
  let v227_r0 : BitVec 32 := Scalar.subi v226_7_r0 c1_i32_205_r0
  let v228_r0 : BitVec 32 := Scalar.select true_206_r0 v227_r0 v226_7_r0
  let c_m1_i32_207_r0 : BitVec 32 := 4294967295#32
  let v229_r0 : BitVec 1 := Scalar.cmpi .eq v228_r0 c_m1_i32_207_r0
  let c1_i32_209_r0 : BitVec 32 := 1#32
  let v231_r0 : BitVec 32 := Scalar.subi v226_6_r0 c1_i32_209_r0
  let v232_r0 : BitVec 32 := Scalar.select v229_r0 v231_r0 v226_6_r0
  let c_m1_i32_210_r0 : BitVec 32 := 4294967295#32
  let v233_r0 : BitVec 1 := Scalar.cmpi .eq v232_r0 c_m1_i32_210_r0
  let c24_i32_211_r0 : BitVec 32 := 24#32
  let v234_r0 : BitVec 32 := Scalar.select v233_r0 c24_i32_211_r0 v232_r0
  let c0_i32_212_r0 : BitVec 32 := 0#32
  let v235_r0 : BitVec 32 := Scalar.addi v234_r0 c0_i32_212_r0
  let c5_i32_313_r0 : BitVec 32 := 5#32
  let v348_r0 : BitVec 32 := Scalar.muli v235_r0 c5_i32_313_r0
  let c4_i32_208_r0 : BitVec 32 := 4#32
  let v230_r0 : BitVec 32 := Scalar.select v229_r0 c4_i32_208_r0 v228_r0
  let c0_i32_213_r0 : BitVec 32 := 0#32
  let v236_r0 : BitVec 32 := Scalar.addi v230_r0 c0_i32_213_r0
  let v349_r0 : BitVec 32 := Scalar.addi v348_r0 v236_r0
  let v350_r0 : BitVec 32 := Scalar.muli c80_i32_314_r0 v349_r0
  let c0_i32_315_r0 : BitVec 32 := 0#32
  ![v350_r0.toNat, 0]

def k0_chk23 (v226_7_r0 : BitVec 32) (v226_6_r0 : BitVec 32) : Prop :=
  (∀ a, (k0_off43 v226_7_r0 v226_6_r0) a + S80x256.size a ≤ S10000x256.size a)
theorem k0_off43_inb : ∀ (v226_7_r0 : BitVec 32) (v226_6_r0 : BitVec 32) (k0_hw23 : k0_chk23 v226_7_r0 v226_6_r0), ∀ a, (k0_off43 v226_7_r0 v226_6_r0) a + S80x256.size a ≤ S10000x256.size a := fun v226_7_r0 v226_6_r0 k0_hw23 => k0_hw23

def k0_off44 (v226_5_r0 : BitVec 32) : Fin 3 → Nat :=
  let c2_i32_r0 : BitVec 32 := 2#32
  let v347_r0 : BitVec 32 := Scalar.remui v226_5_r0 c2_i32_r0
  let c0_i32_316_r0 : BitVec 32 := 0#32
  let c0_i32_317_r0 : BitVec 32 := 0#32
  ![v347_r0.toNat, 0, 0]

def k0_chk22 (v226_5_r0 : BitVec 32) : Prop :=
  (∀ a, (k0_off42 v226_5_r0) a + S1.size a ≤ S2.size a) ∧
  (∀ a, (k0_off44 v226_5_r0) a + S1x80x256.size a ≤ S2x80x256.size a)
theorem k0_off42_inb : ∀ (v226_5_r0 : BitVec 32) (k0_hw22 : k0_chk22 v226_5_r0), ∀ a, (k0_off42 v226_5_r0) a + S1.size a ≤ S2.size a := fun v226_5_r0 k0_hw22 => k0_hw22.1
theorem k0_off44_inb : ∀ (v226_5_r0 : BitVec 32) (k0_hw22 : k0_chk22 v226_5_r0), ∀ a, (k0_off44 v226_5_r0) a + S1x80x256.size a ≤ S2x80x256.size a := fun v226_5_r0 k0_hw22 => k0_hw22.2

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.K.Names.lean ====
/-
  The canonical names of the kernel's slices — slot `s` of the input ring and its semaphore, row block `b` of the
  adjacency matrix, slot `s` of the output ring and its semaphore, row block `b` of the result — and, for each place
  where the kernel slices one of them, the words of that place in closed form: trip `k` fetches block `k + 9`,
  multiplies block `k` and waits for the write-back of block `k - 1`.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.KitQuiescent
public import Idealize.ShloMosaic.Lib.Ring
public import Idealize.ShloMosaic.Lib.Tactic

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem

/-! ## The arrays the kernel moves itself -/

abbrev adjM : Memref sig .tc .hbm S10000x10000 .f32 := Memref.whole main_arg1
abbrev resM : Memref sig .tc .hbm S10000x256 .f32 := Memref.whole main_v1
abbrev hM : Memref sig .tc .vmem S10000x256 .bf16 := Memref.whole cc0_scratch0
abbrev inM : Memref sig .tc .vmem S10x80x10000 .f32 := Memref.whole cc0_scoped0
abbrev outM : Memref sig .tc .vmem S2x80x256 .f32 := Memref.whole cc0_scoped2

/-! ## Offsets -/

abbrev inSemOff (s : Fin 10) : Fin 1 → Nat := ![s.val]
abbrev inOff (s : Fin 10) : Fin 3 → Nat := ![s.val, 0, 0]
abbrev adjOff (b : Fin 125) : Fin 2 → Nat := ![80 * b.val, 0]
abbrev outSemOff (s : Fin 2) : Fin 1 → Nat := ![s.val]
abbrev outOff (s : Fin 2) : Fin 3 → Nat := ![s.val, 0, 0]
abbrev resOff (b : Fin 125) : Fin 2 → Nat := ![80 * b.val, 0]

theorem inSemOff_inb (s : Fin 10) : ∀ a, inSemOff s a + S1.size a ≤ S10.size a := by
  have := s.isLt; intro a; fin_cases a; show s.val + 1 ≤ 10; omega
theorem inOff_inb (s : Fin 10) : ∀ a, inOff s a + S1x80x10000.size a ≤ S10x80x10000.size a := by
  have := s.isLt; intro a; fin_cases a
  · show s.val + 1 ≤ 10; omega
  · show 0 + 80 ≤ 80; omega
  · show 0 + 10000 ≤ 10000; omega
theorem adjOff_inb (b : Fin 125) : ∀ a, adjOff b a + S80x10000.size a ≤ S10000x10000.size a := by
  have := b.isLt; intro a; fin_cases a
  · show 80 * b.val + 80 ≤ 10000; omega
  · show 0 + 10000 ≤ 10000; omega
theorem outSemOff_inb (s : Fin 2) : ∀ a, outSemOff s a + S1.size a ≤ S2.size a := by
  have := s.isLt; intro a; fin_cases a; show s.val + 1 ≤ 2; omega
theorem outOff_inb (s : Fin 2) : ∀ a, outOff s a + S1x80x256.size a ≤ S2x80x256.size a := by
  have := s.isLt; intro a; fin_cases a
  · show s.val + 1 ≤ 2; omega
  · show 0 + 80 ≤ 80; omega
  · show 0 + 256 ≤ 256; omega
theorem resOff_inb (b : Fin 125) : ∀ a, resOff b a + S80x256.size a ≤ S10000x256.size a := by
  have := b.isLt; intro a; fin_cases a
  · show 80 * b.val + 80 ≤ 10000; omega
  · show 0 + 256 ≤ 256; omega

/-! ## The slices -/

/-- The rectangle of slot `s` of the input ring, and of the output ring. -/
abbrev inRect (s : Fin 10) : Rect S10x80x10000 := Rect.unit (s := S10x80x10000) (inOff s) S1x80x10000.size (inOff_inb s)
abbrev outRect (s : Fin 2) : Rect S2x80x256 := Rect.unit (s := S2x80x256) (outOff s) S1x80x256.size (outOff_inb s)
abbrev adjRect (b : Fin 125) : Rect S10000x10000 := Rect.unit (s := S10000x10000) (adjOff b) S80x10000.size (adjOff_inb b)
abbrev resRect (b : Fin 125) : Rect S10000x256 := Rect.unit (s := S10000x256) (resOff b) S80x256.size (resOff_inb b)

/-- Slot `s` of the input ring, as the kernel slices and squeezes it, and its semaphore. -/
def inSlot (s : Fin 10) : Memref sig .tc .vmem S80x10000 .f32 :=
  (inM.slice (inRect s) (fun _ => rfl)).squeeze S80x10000 squeezes_S1x80x10000_S80x10000
def inSem (s : Fin 10) : DmaSems sig S_ :=
  (cc0_scoped1.slice (Rect.unit (s := S10) (inSemOff s) S1.size (inSemOff_inb s))).squeeze S_ squeezes_S1_S_
/-- Row block `b` of the adjacency matrix. -/
def adjBlk (b : Fin 125) : Memref sig .tc .hbm S80x10000 .f32 := adjM.slice (adjRect b) (fun _ => rfl)
/-- Slot `s` of the output ring, as the kernel slices and squeezes it, and its semaphore. -/
def outSlot (s : Fin 2) : Memref sig .tc .vmem S80x256 .f32 :=
  (outM.slice (outRect s) (fun _ => rfl)).squeeze S80x256 squeezes_S1x80x256_S80x256
def outSem (s : Fin 2) : DmaSems sig S_ :=
  (cc0_scoped3.slice (Rect.unit (s := S2) (outSemOff s) S1.size (outSemOff_inb s))).squeeze S_ squeezes_S1_S_
/-- Row block `b` of the result. -/
def resBlk (b : Fin 125) : Memref sig .tc .hbm S80x256 .f32 := resM.slice (resRect b) (fun _ => rfl)

theorem inSem_congr {off : Fin 1 → Nat} {s : Fin 10} (e : off = inSemOff s) (hh) :
    (cc0_scoped1.slice (Rect.unit (s := S10) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 2} (e : off = outSemOff s) (hh) :
    (cc0_scoped3.slice (Rect.unit (s := S2) off S1.size hh)).squeeze S_ squeezes_S1_S_ = outSem s :=
  congrArg (fun A : DmaSems sig S1 => A.squeeze S_ squeezes_S1_S_) (SemArray.slice_unit_congr _ e _ _)
theorem inSlot_congr {off : Fin 3 → Nat} {s : Fin 10} (e : off = inOff s) (hh hs) :
    (inM.slice (Rect.unit (s := S10x80x10000) off S1x80x10000.size hh) hs).squeeze S80x10000 squeezes_S1x80x10000_S80x10000 = inSlot s :=
  congrArg (fun M : Memref sig .tc .vmem S1x80x10000 .f32 => M.squeeze S80x10000 squeezes_S1x80x10000_S80x10000) (Memref.slice_unit_congr _ e _ _ _ _)
theorem outSlot_congr {off : Fin 3 → Nat} {s : Fin 2} (e : off = outOff s) (hh hs) :
    (outM.slice (Rect.unit (s := S2x80x256) off S1x80x256.size hh) hs).squeeze S80x256 squeezes_S1x80x256_S80x256 = outSlot s :=
  congrArg (fun M : Memref sig .tc .vmem S1x80x256 .f32 => M.squeeze S80x256 squeezes_S1x80x256_S80x256) (Memref.slice_unit_congr _ e _ _ _ _)
theorem adjBlk_congr {off : Fin 2 → Nat} {b : Fin 125} (e : off = adjOff b) (hh hs) :
    adjM.slice (Rect.unit (s := S10000x10000) off S80x10000.size hh) hs = adjBlk b := by subst e; rfl
theorem resBlk_congr {off : Fin 2 → Nat} {b : Fin 125} (e : off = resOff b) (hh hs) :
    resM.slice (Rect.unit (s := S10000x256) off S80x256.size hh) hs = resBlk b := by subst e; rfl
theorem inRect_congr {off : Fin 3 → Nat} {s : Fin 10} (e : off = inOff s) (hh) :
    Rect.unit (s := S10x80x10000) off S1x80x10000.size hh = inRect s := by subst e; rfl
theorem outRect_congr {off : Fin 3 → Nat} {s : Fin 2} (e : off = outOff s) (hh) :
    Rect.unit (s := S2x80x256) off S1x80x256.size hh = outRect s := by subst e; rfl

/-! ## The fetch's words: block `p` about to be fetched, the one before it fetched last -/

/-- The words of block `q` on the 25 by 5 grid of blocks. -/
abbrev wI (q : ℕ) : BitVec 32 := BitVec.ofNat 32 (q / 5)
abbrev wJ (q : ℕ) : BitVec 32 := BitVec.ofNat 32 (q % 5)
abbrev wN (q : ℕ) : BitVec 32 := BitVec.ofNat 32 q

/-- The test of the fetch at bound `e`: its counter below the bound, the next block a block of the grid. -/
abbrev fetchTest (e i j n : BitVec 32) : BitVec 1 :=
  Scalar.andi (Scalar.andi 1#1 (Scalar.cmpi .ult n e)) (Scalar.andi (Scalar.andi 1#1 (Scalar.cmpi .slt i 25#32)) (Scalar.cmpi .slt j 5#32))

theorem fetchTest_go : ∀ p : Fin 124, fetchTest (wN (p.val + 2)) (wI (p.val + 1)) (wJ (p.val + 1)) (wN (p.val + 1)) = 1#1 := by decide +kernel
theorem fetchTest_full : ∀ p : Fin 126, fetchTest (wN p.val) (wI p.val) (wJ p.val) (wN p.val) = 0#1 := by decide +kernel
theorem fetch_cond : ∀ p : Fin 124, k0_cond1 (wI p.val) (wJ p.val) (wI (p.val + 1)) (wJ (p.val + 1)) = 1#1 := by decide +kernel
theorem fetch_off4 : ∀ p : Fin 124, k0_off4 (wN (p.val + 1)) = inSemOff (Ring.sl 10 (p.val + 1)) := by decide +kernel
theorem fetch_off5 : ∀ p : Fin 124, k0_off5 (wN (p.val + 1)) = inOff (Ring.sl 10 (p.val + 1)) := by decide +kernel
theorem fetch_off6 : ∀ p : Fin 124, k0_off6 (wI (p.val + 1)) (wJ (p.val + 1)) = adjOff (Ring.bk 125 (p.val + 1)) := by decide +kernel

end Cert.Proof.K
-- ==== Proof.K.Pieces.lean ====
/-
  What the pieces hold. The adjacency matrix is cut in 125 row blocks of 80 rows, and so is the result. A block's
  transfer leaves its rows in a slot of the input ring; the product of the block with `h = x W`, plus the bias, is stored
  in a slot of the output ring and written back over the result's rows. Each step is stated element by element on the
  piece it writes, against ONE array of final contents (`resAll`), and each array is the disjoint union of its pieces.
-/
module

public import proofs.«01_k».proof.Proof.K.Names
public import Idealize.ShloMosaic.Lib.ValueIdxCore
public import Idealize.ShloMosaic.Lib.Pipeline.Value

@[expose] public section

set_option maxRecDepth 16384

noncomputable section

namespace Cert.Proof.K

open Cert.KernelIdeal Cert.KernelIdeal.Gen
open Idealize.ShloMosaic
open Idealize.ShloMosaic.TcCoe Idealize.ShloMosaic.ValueIdx

variable {F : FTy → Type} [FloatOps F]

theorem ix3_lt0 {n m k : Nat} (i : Shape.Idx (⟨3, ![n, m, k]⟩ : Shape)) : (i 0).val < n := (i 0).isLt
theorem ix3_lt1 {n m k : Nat} (i : Shape.Idx (⟨3, ![n, m, k]⟩ : Shape)) : (i 1).val < m := (i 1).isLt
theorem ix3_lt2 {n m k : Nat} (i : Shape.Idx (⟨3, ![n, m, k]⟩ : Shape)) : (i 2).val < k := (i 2).isLt

/-! ## The contents -/

/-- Rows `80 b … 80 b + 79` of the adjacency matrix, as one slot holds them. -/
def blockVal (A : S10000x10000.Idx → Elt F .f32) (b : Fin 125) : Vec F S1x80x10000 .f32 :=
  fun j => A (ix2 (⟨80 * b.val + (j 1).val, by have := ix3_lt1 j; have := b.isLt; omega⟩ : Fin 10000) (j 2))
/-- The input ring with block `b` in every slot (only one slot's elements of it are ever claimed). -/
def inAll (A : S10000x10000.Idx → Elt F .f32) (b : Fin 125) : S10x80x10000.Idx → Elt F .f32 :=
  fun i => blockVal A b (ix3 (0 : Fin 1) (i 1) (i 2))
/-- The output ring with the product block `O` in every slot. -/
def outAll (O : Vec F S1x80x256 .f32) : S2x80x256.Idx → Elt F .f32 := fun i => O (ix3 (0 : Fin 1) (i 1) (i 2))
/-- The result, its row block `b` at the product block `O b`. -/
def resAll (O : Fin 125 → Vec F S1x80x256 .f32) : S10000x256.Idx → Elt F .f32 :=
  fun y => O ⟨(y 0).val / 80, by have := idx2_lt0 y; omega⟩ (ix3 (0 : Fin 1) (⟨(y 0).val % 80, Nat.mod_lt _ (by decide)⟩ : Fin 80) (y 1))
/-- The product block of rows block `b`: the block times `h`, plus the bias. -/
def prod (A : S10000x10000.Idx → Elt F .f32) (h : Vec F S10000x256 .bf16) (bi : Vec F S1x256 .f32) (b : Fin 125) : Vec F S1x80x256 .f32 :=
  k0_pay2 (k0_pay1 (blockVal A b)) h bi

/-! ## The slices' elements -/

theorem inSlot_emb (s : Fin 10) (x : S80x10000.Idx) : ((inSlot s).view.emb x : S10x80x10000.Idx) = ix3 s (x 0) (x 1) := by
  show (inRect s).emb (Shape.reshapeEquiv _ x) = _
  rw [show Shape.reshapeEquiv _ x = _ from Shape.reshapeEquiv_cons_one (d := ![80, 10000]) _ x]
  funext a; apply Fin.ext; fin_cases a
  · show s.val + 1 * 0 = s.val; omega
  · show 0 + 1 * (x 0).val = (x 0).val; omega
  · show 0 + 1 * (x 1).val = (x 1).val; omega
theorem outSlot_emb (s : Fin 2) (x : S80x256.Idx) : ((outSlot s).view.emb x : S2x80x256.Idx) = ix3 s (x 0) (x 1) := by
  show (outRect s).emb (Shape.reshapeEquiv _ x) = _
  rw [show Shape.reshapeEquiv _ x = _ from Shape.reshapeEquiv_cons_one (d := ![80, 256]) _ x]
  funext a; apply Fin.ext; fin_cases a
  · show s.val + 1 * 0 = s.val; omega
  · show 0 + 1 * (x 0).val = (x 0).val; omega
  · show 0 + 1 * (x 1).val = (x 1).val; omega
theorem adjBlk_emb (b : Fin 125) (x : S80x10000.Idx) : ((adjBlk b).view.emb x : S10000x10000.Idx)
    = ix2 (⟨80 * b.val + (x 0).val, by have := idx2_lt0 x; have := b.isLt; omega⟩ : Fin 10000) (x 1) := by
  funext a; apply Fin.ext; fin_cases a
  · show 80 * b.val + 1 * (x 0).val = _; simp
  · show 0 + 1 * (x 1).val = (x 1).val; omega
theorem resBlk_emb (b : Fin 125) (x : S80x256.Idx) : ((resBlk b).view.emb x : S10000x256.Idx)
    = ix2 (⟨80 * b.val + (x 0).val, by have := idx2_lt0 x; have := b.isLt; omega⟩ : Fin 10000) (x 1) := by
  funext a; apply Fin.ext; fin_cases a
  · show 80 * b.val + 1 * (x 0).val = _; simp
  · show 0 + 1 * (x 1).val = (x 1).val; omega

theorem inSlot_set (s : Fin 10) : (inSlot s).view.set = (inRect s).set := (View.set_reshape _ _).trans (View.set_slice_whole _ _)
theorem outSlot_set (s : Fin 2) : (outSlot s).view.set = (outRect s).set := (View.set_reshape _ _).trans (View.set_slice_whole _ _)
theorem adjBlk_set (b : Fin 125) : (adjBlk b).view.set = (adjRect b).set := View.set_slice_whole _ _
theorem resBlk_set (b : Fin 125) : (resBlk b).view.set = (resRect b).set := View.set_slice_whole _ _

/-! ## What each transfer and store leaves on its piece -/

/-- Block `b` landed in slot `s`, whatever the slot held before. -/
theorem in_landed (A : S10000x10000.Idx → Elt F .f32) (s : Fin 10) (b : Fin 125) (f : S10x80x10000.Idx → Elt F .f32) :
    ∀ i ∈ (inSlot s).view.set, (inSlot s).view.write (Elt F) f (ReadAs.same.apply ((adjBlk b).view.read (Elt F) A)) Finset.univ i = inAll A b i := by
  intro i hi
  obtain ⟨x, -, rfl⟩ := Finset.mem_map.mp hi
  refine (View.write_emb_of_mem (v := (inSlot s).view) f _ (Finset.mem_univ x)).trans ?_
  show A ((adjBlk b).view.emb x) = inAll A b ((inSlot s).view.emb x)
  rw [adjBlk_emb, show ((inSlot s).view.emb x : S10x80x10000.Idx) = _ from inSlot_emb s x]
  rfl
/-- What the body loads from slot `s` then: block `b`. -/
theorem in_read (A : S10000x10000.Idx → Elt F .f32) (s : Fin 10) (b : Fin 125) :
    inM.view.readAt (Elt F) (inRect s).toLoadRect (inAll A b) = blockVal A b := by
  funext j
  show inAll A b ((inRect s).emb j) = _
  unfold inAll blockVal
  congr 2
  · apply Fin.ext
    show 80 * b.val + (0 + 1 * (j 1).val) = 80 * b.val + (j 1).val; omega
  · apply Fin.ext
    show 0 + 1 * (j 2).val = (j 2).val; omega
/-- The product block stored in slot `s`. -/
theorem out_stored (O : Vec F S1x80x256 .f32) (s : Fin 2) (f : S2x80x256.Idx → Elt F .f32) :
    ∀ i ∈ (outSlot s).view.set, (outM.access (outRect s)).write (Elt F) f O Finset.univ i = outAll O i := by
  intro i hi
  rw [outSlot_set, ← View.set_slice_whole cc0_scoped2] at hi
  obtain ⟨x, -, rfl⟩ := Finset.mem_map.mp hi
  refine (View.write_emb_of_mem (v := outM.access (outRect s)) f O (Finset.mem_univ x)).trans ?_
  show O x = outAll O ((outRect s).emb x)
  unfold outAll
  congr 1
  funext a; apply Fin.ext; fin_cases a
  · have := ix3_lt0 x; show (x 0).val = 0; omega
  · show (x 1).val = 0 + 1 * (x 1).val; omega
  · show (x 2).val = 0 + 1 * (x 2).val; omega
/-- The product block written back over row block `b` of the result. -/
theorem out_landed (O : Fin 125 → Vec F S1x80x256 .f32) (s : Fin 2) (b : Fin 125) (f : S10000x256.Idx → Elt F .f32) :
    ∀ i ∈ (resBlk b).view.set, (resBlk b).view.write (Elt F) f (ReadAs.same.apply ((outSlot s).view.read (Elt F) (outAll (O b)))) Finset.univ i = resAll O i := by
  intro i hi
  obtain ⟨x, -, rfl⟩ := Finset.mem_map.mp hi
  refine (View.write_emb_of_mem (v := (resBlk b).view) f _ (Finset.mem_univ x)).trans ?_
  show outAll (O b) ((outSlot s).view.emb x) = resAll O ((resBlk b).view.emb x)
  rw [show ((outSlot s).view.emb x : S2x80x256.Idx) = _ from outSlot_emb s x, show ((resBlk b).view.emb x : S10000x256.Idx) = _ from resBlk_emb b x]
  have hx := idx2_lt0 x
  unfold outAll resAll
  congr 1
  · congr 1; apply Fin.ext; show b.val = (80 * b.val + (x 0).val) / 80; omega
  · funext a; apply Fin.ext; fin_cases a
    · rfl
    · show (x 0).val = (80 * b.val + (x 0).val) % 80; omega
    · rfl

/-! ## Each array is the disjoint union of its pieces -/

theorem adj_disjoint (b b' : Fin 125) (h : b ≠ b') : Disjoint (adjRect b).set (adjRect b').set := by
  have hne : b.val ≠ b'.val := fun e => h (Fin.ext e)
  rw [Finset.disjoint_left]; intro i h1 h2
  have e1 := (Rect.mem_set_unit.mp h1) 0; have e2 := (Rect.mem_set_unit.mp h2) 0
  have e1' : 80 * b.val ≤ (i 0).val ∧ (i 0).val < 80 * b.val + 80 := e1
  have e2' : 80 * b'.val ≤ (i 0).val ∧ (i 0).val < 80 * b'.val + 80 := e2
  omega
theorem adj_cover : Finset.univ.biUnion (fun b => (adjRect b).set) = Finset.univ := by
  refine Finset.eq_univ_of_forall fun i => Finset.mem_biUnion.mpr ?_
  have h0 := idx2_lt0 i; have h1 := idx2_lt1 i
  refine ⟨⟨(i 0).val / 80, by omega⟩, Finset.mem_univ _, Rect.mem_set_unit.mpr fun a => ?_⟩
  fin_cases a
  · show 80 * ((i 0).val / 80) ≤ (i 0).val ∧ (i 0).val < 80 * ((i 0).val / 80) + 80; omega
  · show 0 ≤ (i 1).val ∧ (i 1).val < 0 + 10000; omega
theorem res_disjoint (b b' : Fin 125) (h : b ≠ b') : Disjoint (resRect b).set (resRect b').set := by
  have hne : b.val ≠ b'.val := fun e => h (Fin.ext e)
  rw [Finset.disjoint_left]; intro i h1 h2
  have e1 : 80 * b.val ≤ (i 0).val ∧ (i 0).val < 80 * b.val + 80 := (Rect.mem_set_unit.mp h1) 0
  have e2 : 80 * b'.val ≤ (i 0).val ∧ (i 0).val < 80 * b'.val + 80 := (Rect.mem_set_unit.mp h2) 0
  omega
theorem res_cover : Finset.univ.biUnion (fun b => (resRect b).set) = Finset.univ := by
  refine Finset.eq_univ_of_forall fun i => Finset.mem_biUnion.mpr ?_
  have h0 := idx2_lt0 i; have h1 := idx2_lt1 i
  refine ⟨⟨(i 0).val / 80, by omega⟩, Finset.mem_univ _, Rect.mem_set_unit.mpr fun a => ?_⟩
  fin_cases a
  · show 80 * ((i 0).val / 80) ≤ (i 0).val ∧ (i 0).val < 80 * ((i 0).val / 80) + 80; omega
  · show 0 ≤ (i 1).val ∧ (i 1).val < 0 + 256; omega
theorem in_disjoint (s s' : Fin 10) (h : s ≠ s') : Disjoint (inRect s).set (inRect s').set := by
  have hne : s.val ≠ s'.val := fun e => h (Fin.ext e)
  rw [Finset.disjoint_left]; intro i h1 h2
  have e1 : s.val ≤ (i 0).val ∧ (i 0).val < s.val + 1 := (Rect.mem_set_unit.mp h1) 0
  have e2 : s'.val ≤ (i 0).val ∧ (i 0).val < s'.val + 1 := (Rect.mem_set_unit.mp h2) 0
  omega
theorem in_cover : Finset.univ.biUnion (fun s => (inRect s).set) = Finset.univ := by
  refine Finset.eq_univ_of_forall fun i => Finset.mem_biUnion.mpr ?_
  have h0 := ix3_lt0 i; have h1 := ix3_lt1 i; have h2 := ix3_lt2 i
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 80; omega
  · show 0 ≤ (i 2).val ∧ (i 2).val < 0 + 10000; omega
theorem out_disjoint (s s' : Fin 2) (h : s ≠ s') : Disjoint (outRect s).set (outRect s').set := by
  have hne : s.val ≠ s'.val := fun e => h (Fin.ext e)
  rw [Finset.disjoint_left]; intro i h1 h2
  have e1 : s.val ≤ (i 0).val ∧ (i 0).val < s.val + 1 := (Rect.mem_set_unit.mp h1) 0
  have e2 : s'.val ≤ (i 0).val ∧ (i 0).val < s'.val + 1 := (Rect.mem_set_unit.mp h2) 0
  omega
theorem out_cover : Finset.univ.biUnion (fun s => (outRect s).set) = Finset.univ := by
  refine Finset.eq_univ_of_forall fun i => Finset.mem_biUnion.mpr ?_
  have h0 := ix3_lt0 i; have h1 := ix3_lt1 i; have h2 := ix3_lt2 i
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 80; omega
  · show 0 ≤ (i 2).val ∧ (i 2).val < 0 + 256; omega

end Cert.Proof.K
-- ==== Proof.K.Res.lean ====
/-
  The resources the kernel holds: a row block at home, a ring slot with its semaphore free, a ring slot in flight with
  its block. A transfer's delivery is stated at the contents every later step reads (`inAll`, `resAll`).
-/
module

public import proofs.«01_k».proof.Proof.K.Pieces

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The labels' variants: the naturals (a while's label calls itself once more at most). -/
abbrev 𝒱₀ : Variants := Variants.nat

omit [FloatOps F] in
theorem entails_of_eq {P Q : sProp 𝕄} (e : P = Q) : P ⊢ Q := e ▸ .rfl

section
variable (c : Dev nD) (A : S10000x10000.Idx → Elt F .f32) (O : Fin 125 → Vec F S1x80x256 .f32)

/-- Row block `b` of the adjacency matrix, at home. -/
def home (b : Fin 125) : sProp 𝕄 := (adjBlk b).view.loc (c : Thread nD τ) ↦[(adjBlk b).view.set]{fullShare} A
/-- Row block `b` of the result: not yet written (at anything), and done. -/
def todo (b : Fin 125) : sProp 𝕄 := iprop(∃ f : S10000x256.Idx → Elt F .f32, (resBlk b).view.loc (c : Thread nD τ) ↦[(resBlk b).view.set]{fullShare} f)
def done (b : Fin 125) : sProp 𝕄 := (resBlk b).view.loc (c : Thread nD τ) ↦[(resBlk b).view.set]{fullShare} resAll O
/-- Slot `s` of the input ring holding `f`, and its semaphore at zero. -/
def inAt (s : Fin 10) (f : S10x80x10000.Idx → Elt F .f32) : sProp 𝕄 :=
  iprop(((inSlot s).view.loc (c : Thread nD τ) ↦[(inSlot s).view.set]{fullShare} f) ∗ semVal ((c : Thread nD τ), SemLoc.dma (inSem s).sem) 0)
def inFree (s : Fin 10) : sProp 𝕄 := iprop(∃ f, inAt c s f)
/-- Slot `s` of the output ring holding `f`, and its semaphore at zero. -/
def outAt (s : Fin 2) (f : S2x80x256.Idx → Elt F .f32) : sProp 𝕄 :=
  iprop(((outSlot s).view.loc (c : Thread nD τ) ↦[(outSlot s).view.set]{fullShare} f) ∗ semVal ((c : Thread nD τ), SemLoc.dma (outSem s).sem) 0)
def outFree (s : Fin 2) : sProp 𝕄 := iprop(∃ f, outAt c s f)
/-- Slot `s` of the input ring in flight with block `b`. -/
def inFlight (s : Fin 10) (b : Fin 125) : sProp 𝕄 :=
  Transfers.Flight countersEmb (c : Thread nD τ) (SemLoc.dma (inSem s).sem) () (inSlot s).view.dmaCredit
    iprop(((inSlot s).view.loc (c : Thread nD τ) ↦[(inSlot s).view.set]{fullShare} inAll A b) ∗ home c A b)
/-- Slot `s` of the output ring in flight to row block `b` of the result. -/
def outFlight (s : Fin 2) (b : Fin 125) : sProp 𝕄 :=
  Transfers.Flight countersEmb (c : Thread nD τ) (SemLoc.dma (outSem s).sem) () (resBlk b).view.dmaCredit
    iprop(done c O b ∗ ((outSlot s).view.loc (c : Thread nD τ) ↦[(outSlot s).view.set]{fullShare} outAll (O b)))

variable {α : Type} (bd : Option ℕ)

theorem inSlot_numel : 0 < S80x10000.numel := by decide
theorem outSlot_numel : 0 < S80x256.numel := by decide

/-- Block `b` issued into slot `s`. -/
theorem wp_in_issue (s : Fin 10) (b : Fin 125) {h1 h2 h3} {k : PUnit → Prog (TpuEff nD τ sig (Elt F) (Λ₀ F) .tc) α} {Q : α → sProp 𝕄} :
    iprop(home c A b ∗ inFree c s) ⊢ iprop((inFlight c A s b -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma (adjBlk b) (.here (inSlot s)) (.dma (inSem s).sem) h1 h2 h3) k) Q) := by
  unfold home inFree inAt inFlight
  iintro ⟨Hh, %f, Hs, Hv⟩ Hk
  iapply (Transfers.wp_dmaLocal countersEmb 𝒱₀ (c : Thread nD τ) bd () (inSlot s).view.dmaCredit rfl
    (View.dmaCredit_pos (v := (inSlot s).view) inSlot_numel) subset_rfl) $$ [Hh Hs Hv]
  · isplitl [Hh]; · iexact Hh
    isplitl [Hs]; · iexact Hs
    iexact Hv
  · iintro HF
    iapply Hk
    rw [pointsTo_congr (in_landed A s b f)]
    iexact HF

/-- The wait on slot `s` in flight with block `b`: the slot holds the block, and the block is home again. -/
theorem wp_in_wait (s : Fin 10) (b : Fin 125) {h1 h2} {k : PUnit → Prog (TpuEff nD τ sig (Elt F) (Λ₀ F) .tc) α} {Q : α → sProp 𝕄} :
    iprop(inFlight c A s b ∗ ∃ W, owes (c : Thread nD τ) 0 W)
      ⊢ iprop((iprop(home c A b ∗ inAt c s (inAll A b) ∗ ∃ W, owes (c : Thread nD τ) 0 W) -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 (inSem s).sem (adjBlk b) (inSlot s) h1 h2) k) Q) := by
  unfold inFlight inAt
  iintro ⟨HF, %W, HW⟩ Hk
  iapply (Transfers.wp_waitLocal countersEmb 𝒱₀ (c : Thread nD τ) bd () (N := (inSlot s).view.dmaCredit) rfl) $$ [HF HW]
  · isplitl [HF]; · iexact HF
    iexact HW
  · iintro ⟨⟨Hs, Hh⟩, Hv, HW⟩
    iapply Hk
    isplitl [Hh]; · iexact Hh
    isplitl [Hs Hv]
    · isplitl [Hs]; · iexact Hs
      iexact Hv
    · iexists _; iexact HW

/-- Row block `b` written back from slot `s` holding its product block. -/
theorem wp_out_issue (s : Fin 2) (b : Fin 125) {h1 h2 h3} {k : PUnit → Prog (TpuEff nD τ sig (Elt F) (Λ₀ F) .tc) α} {Q : α → sProp 𝕄} :
    iprop(outAt c s (outAll (O b)) ∗ todo c b) ⊢ iprop((outFlight c O s b -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma (outSlot s) (.here (resBlk b)) (.dma (outSem s).sem) h1 h2 h3) k) Q) := by
  unfold todo outAt outFlight done
  iintro ⟨⟨Hs, Hv⟩, %f, Hd⟩ Hk
  iapply (Transfers.wp_dmaLocal countersEmb 𝒱₀ (c : Thread nD τ) bd () (resBlk b).view.dmaCredit rfl
    (View.dmaCredit_pos (v := (resBlk b).view) outSlot_numel) subset_rfl) $$ [Hd Hs Hv]
  · isplitl [Hs]; · iexact Hs
    isplitl [Hd]; · iexact Hd
    iexact Hv
  · iintro HF
    iapply Hk
    rw [pointsTo_congr (out_landed O s b f)]
    iexact HF

/-- The wait on the write-back of row block `b` from slot `s`: the block is done, the slot free. -/
theorem wp_out_wait (s : Fin 2) (b : Fin 125) {h1 h2} {k : PUnit → Prog (TpuEff nD τ sig (Elt F) (Λ₀ F) .tc) α} {Q : α → sProp 𝕄} :
    iprop(outFlight c O s b ∗ ∃ W, owes (c : Thread nD τ) 0 W)
      ⊢ iprop((iprop(done c O b ∗ outFree c s ∗ ∃ W, owes (c : Thread nD τ) 0 W) -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 (outSem s).sem (outSlot s) (resBlk b) h1 h2) k) Q) := by
  unfold outFlight outFree outAt
  iintro ⟨HF, %W, HW⟩ Hk
  iapply (Transfers.wp_waitLocal countersEmb 𝒱₀ (c : Thread nD τ) bd () (N := (resBlk b).view.dmaCredit) rfl) $$ [HF HW]
  · isplitl [HF]; · iexact HF
    iexact HW
  · iintro ⟨⟨Hd, Hs⟩, Hv, HW⟩
    iapply Hk
    isplitl [Hd]; · iexact Hd
    isplitl [Hs Hv]
    · iexists _
      isplitl [Hs]; · iexact Hs
      iexact Hv
    · iexists _; iexact HW

/-- The load of slot `s` of the input ring holding block `b`. -/
theorem wp_in_load (s : Fin 10) (b : Fin 125) {h1} {k : Vec F S1x80x10000 .f32 → Prog (TpuEff nD τ sig (Elt F) (Λ₀ F) .tc) α} {Q : α → sProp 𝕄} :
    inAt c s (inAll A b) ⊢ iprop((inAt c s (inAll A b) -∗ wp frame (wpE (defs₀ (F := F)) 𝒱₀ (c : Thread nD τ) bd) Set.univ (k (blockVal A b)) Q)
      -∗ wp frame (wpE (defs₀ (F := F)) 𝒱₀ (c : Thread nD τ) bd) Set.univ (.op (.load inM (inRect s).toLoadRect h1) k) Q) := by
  unfold inAt
  iintro ⟨Hs, Hv⟩ Hk
  have hS : inM.view.setOn (inRect s).toLoadRect.set ⊆ (inSlot s).view.set := by
    rw [inSlot_set]; intro i hi; obtain ⟨x, hx, rfl⟩ := Finset.mem_map.mp hi; exact hx
  iapply (wp_load 𝒱₀ (c : Thread nD τ) bd Set.univ (m := inM) (r := (inRect s).toLoadRect) (q := fullShare) (f := inAll A b) hS) $$ [Hs]
  · iexact Hs
  rw [in_read A s b]
  iintro Hs
  iapply Hk
  isplitl [Hs]; · iexact Hs
  iexact Hv

/-- The load of slot `s` of the output ring, whatever it holds (what it reads is not used). -/
theorem wp_out_load (s : Fin 2) {h1} {k : Vec F S1x80x256 .f32 → Prog (TpuEff nD τ sig (Elt F) (Λ₀ F) .tc) α} {Q : α → sProp 𝕄} :
    outFree c s ⊢ iprop((∀ x, outFree c s -∗ wp frame (wpE (defs₀ (F := F)) 𝒱₀ (c : Thread nD τ) bd) Set.univ (k x) Q)
      -∗ wp frame (wpE (defs₀ (F := F)) 𝒱₀ (c : Thread nD τ) bd) Set.univ (.op (.load outM (outRect s).toLoadRect h1) k) Q) := by
  unfold outFree outAt
  iintro ⟨%f, Hs, Hv⟩ Hk
  have hS : outM.view.setOn (outRect s).toLoadRect.set ⊆ (outSlot s).view.set := by
    rw [outSlot_set]; intro i hi; obtain ⟨x, hx, rfl⟩ := Finset.mem_map.mp hi; exact hx
  iapply (wp_load 𝒱₀ (c : Thread nD τ) bd Set.univ (m := outM) (r := (outRect s).toLoadRect) (q := fullShare) (f := f) hS) $$ [Hs]
  · iexact Hs
  iintro Hs
  iapply Hk
  iexists f
  isplitl [Hs]; · iexact Hs
  iexact Hv

/-- The store of the product block `o` in slot `s` of the output ring. -/
theorem wp_out_store (s : Fin 2) (o : Vec F S1x80x256 .f32) {h1 h2} {k : PUnit → Prog (TpuEff nD τ sig (Elt F) (Λ₀ F) .tc) α} {Q : α → sProp 𝕄} :
    outFree c s ⊢ iprop((outAt c s (outAll o) -∗ wp frame (wpE (defs₀ (F := F)) 𝒱₀ (c : Thread nD τ) bd) Set.univ (k ⟨⟩) Q)
      -∗ wp frame (wpE (defs₀ (F := F)) 𝒱₀ (c : Thread nD τ) bd) Set.univ (.op (.store outM (outRect s) o Finset.univ h1 h2) k) Q) := by
  unfold outFree outAt
  iintro ⟨%f, Hs, Hv⟩ Hk
  have hS : (outM.access (outRect s)).setOn Finset.univ ⊆ (outSlot s).view.set := by
    rw [outSlot_set]; exact (View.set_slice_whole _ _).subset
  iapply (wp_store 𝒱₀ (c : Thread nD τ) bd Set.univ (m := outM) (r := outRect s) (f := f) hS) $$ [Hs]
  · iexact Hs
  iintro Hs
  iapply Hk
  isplitl [Hs]
  · have e := pointsTo_congr (U := UU nD τ) (Lvl := ℕ) (Name := ℕ) (Ix := Unit) (q := fullShare) (ℓ := (outSlot s).view.loc (c : Thread nD τ)) (out_stored o s f)
    iapply (entails_of_eq e)
    iexact Hs
  iexact Hv
end

end Cert.Proof.K
-- ==== Proof.K.Fetch.lean ====
/-
  The fetch: each of the nine labels that issue the next row block. They run the same body on the words of the block
  fetched last, of the block to fetch and of the count; at a bound one above the count the body issues the one block
  and calls itself, where the count has reached the bound and it returns.
-/
module

public import proofs.«01_k».proof.Proof.K.Res

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- A fetch's words: the block fetched last, the block to fetch, the count of blocks issued. -/
abbrev W5 : Type := BitVec 32 × BitVec 32 × BitVec 32 × BitVec 32 × BitVec 32

/-- The words with block `p` to fetch next. -/
abbrev words (p : ℕ) : W5 := (wI (p - 1), wJ (p - 1), wI p, wJ p, wN p)

/-- The words after one more issue. -/
abbrev nextN (i j i' j' n : BitVec 32) : BitVec 32 :=
  Scalar.addi n (Scalar.extui (Scalar.cmpi .ne (Scalar.addi (Scalar.muli (Scalar.addi i 0#32) 5#32) (Scalar.addi j 0#32))
    (Scalar.addi (Scalar.muli (Scalar.addi i' 0#32) 5#32) (Scalar.addi j' 0#32))))
abbrev nextJ (j' : BitVec 32) : BitVec 32 :=
  Scalar.select (Scalar.cmpi .eq (Scalar.select 1#1 (Scalar.addi j' 1#32) j') 5#32) 0#32 (Scalar.select 1#1 (Scalar.addi j' 1#32) j')
abbrev nextI (i' j' : BitVec 32) : BitVec 32 :=
  Scalar.select 0#1 0#32 (Scalar.select (Scalar.cmpi .eq (Scalar.select 1#1 (Scalar.addi j' 1#32) j') 5#32) (Scalar.addi i' 1#32) i')

theorem next_eq : ∀ p : Fin 124, (wI (p.val + 1), wJ (p.val + 1), nextI (wI (p.val + 1)) (wJ (p.val + 1)), nextJ (wJ (p.val + 1)),
    nextN (wI p.val) (wJ p.val) (wI (p.val + 1)) (wJ (p.val + 1)) (wN (p.val + 1))) = words (p.val + 2) := by decide +kernel

/-- The fetch's body at bound `e`, its own call left open. -/
noncomputable def fetchBody (e : BitVec 32) (call : BitVec 32 → BitVec 32 → BitVec 32 → BitVec 32 → BitVec 32 → Prog (TpuEff nD τ sig (Elt F) (Λ₀ F) .tc) W5)
    (i j i' j' n : BitVec 32) : Prog (TpuEff nD τ sig (Elt F) (Λ₀ F) .tc) W5 := do
  if fetchTest e i' j' n = 1#1 then do
    have hw2 : k0_chk2 i j i' j' := (← Prog.lift (TpuEff.assume (k0_chk2 i j i' j') (k0_chk2.dec i j i' j'))).down
    have hw1 : k0_chk1 i j i' j' n := (← Prog.lift (TpuEff.assume (k0_chk1 i j i' j' n) (k0_chk1.dec i j i' j' n))).down
    if h : k0_cond1 i j i' j' = 1#1 then do
      Prog.lift (.enqueueDma (adjM.slice (Rect.unit (s := S10000x10000) (k0_off6 i' j') S80x10000.size (k0_off6_inb i j i' j' hw2 h)) (fun _ => rfl))
        (.here ((inM.slice (Rect.unit (s := S10x80x10000) (k0_off5 n) S1x80x10000.size (k0_off5_inb i j i' j' n hw1 h)) (fun _ => rfl)).squeeze S80x10000 squeezes_S1x80x10000_S80x10000))
        (.dma ((cc0_scoped1.slice (Rect.unit (s := S10) (k0_off4 n) S1.size (k0_off4_inb i j i' j' n hw1 h))).squeeze S_ squeezes_S1_S_).sem)
        (View.wordExact_bits rfl) ((View.wordExact_bits rfl).reshape _ _) ⟨Or.inl rfl, trivial⟩)
      pure ⟨⟩
    else do
      pure ⟨⟩
    call i' j' (nextI i' j') (nextJ j') (nextN i j i' j' n)
  else pure (i, j, i', j', n)

abbrev inW : inM.IsWhole := Memref.isWhole_whole _
abbrev adjW : adjM.IsWhole := Memref.isWhole_whole _

/-- The call of label 1, and of labels 2 to 8 at their bounds. -/
abbrev call1 (i j i' j' n : BitVec 32) : Prog (TpuEff nD τ sig (Elt F) (Λ₀ F) .tc) W5 :=
  Prog.lift (.call (1 : (Λ₀ F).Label) ⟨cc0_scoped1, inM, inW, adjM, adjW, i, j, i', j', n⟩)
abbrev call2 (e : BitVec 32) (i j i' j' n : BitVec 32) : Prog (TpuEff nD τ sig (Elt F) (Λ₀ F) .tc) W5 :=
  Prog.lift (.call (2 : (Λ₀ F).Label) ⟨e, cc0_scoped1, inM, inW, adjM, adjW, i, j, i', j', n⟩)
abbrev call3 (e : BitVec 32) (i j i' j' n : BitVec 32) : Prog (TpuEff nD τ sig (Elt F) (Λ₀ F) .tc) W5 :=
  Prog.lift (.call (3 : (Λ₀ F).Label) ⟨e, cc0_scoped1, inM, inW, adjM, adjW, i, j, i', j', n⟩)
abbrev call4 (e : BitVec 32) (i j i' j' n : BitVec 32) : Prog (TpuEff nD τ sig (Elt F) (Λ₀ F) .tc) W5 :=
  Prog.lift (.call (4 : (Λ₀ F).Label) ⟨e, cc0_scoped1, inM, inW, adjM, adjW, i, j, i', j', n⟩)
abbrev call5 (e : BitVec 32) (i j i' j' n : BitVec 32) : Prog (TpuEff nD τ sig (Elt F) (Λ₀ F) .tc) W5 :=
  Prog.lift (.call (5 : (Λ₀ F).Label) ⟨e, cc0_scoped1, inM, inW, adjM, adjW, i, j, i', j', n⟩)
abbrev call6 (e : BitVec 32) (i j i' j' n : BitVec 32) : Prog (TpuEff nD τ sig (Elt F) (Λ₀ F) .tc) W5 :=
  Prog.lift (.call (6 : (Λ₀ F).Label) ⟨e, cc0_scoped1, inM, inW, adjM, adjW, i, j, i', j', n⟩)
abbrev call7 (e : BitVec 32) (i j i' j' n : BitVec 32) : Prog (TpuEff nD τ sig (Elt F) (Λ₀ F) .tc) W5 :=
  Prog.lift (.call (7 : (Λ₀ F).Label) ⟨e, cc0_scoped1, inM, inW, adjM, adjW, i, j, i', j', n⟩)
abbrev call8 (e : BitVec 32) (i j i' j' n : BitVec 32) : Prog (TpuEff nD τ sig (Elt F) (Λ₀ F) .tc) W5 :=
  Prog.lift (.call (8 : (Λ₀ F).Label) ⟨e, cc0_scoped1, inM, inW, adjM, adjW, i, j, i', j', n⟩)
abbrev call9 (k : Fin k0_t1_loop.trips) (e : BitVec 32) (i j i' j' n : BitVec 32) : Prog (TpuEff nD τ sig (Elt F) (Λ₀ F) .tc) W5 :=
  Prog.lift (.call (9 : (Λ₀ F).Label) ⟨k, e, cc0_scoped1, inM, inW, adjM, adjW, i, j, i', j', n⟩)

theorem while1_eq (i j i' j' n : BitVec 32) : cc0_while1 (F := F) cc0_scoped1 inM inW adjM adjW i j i' j' n
    = fetchBody (Scalar.select (Scalar.cmpi .ult (Scalar.addi 0#32 10#32) (Scalar.addi (Scalar.addi 0#32 1#32) 1#32)) (Scalar.addi 0#32 10#32) (Scalar.addi (Scalar.addi 0#32 1#32) 1#32)) call1 i j i' j' n := by
  rw [cc0_while1_eq_skeleton]; rfl
theorem while2_eq (e i j i' j' n : BitVec 32) : cc0_while2 (F := F) e cc0_scoped1 inM inW adjM adjW i j i' j' n = fetchBody e (call2 e) i j i' j' n := by
  rw [cc0_while2_eq_skeleton]; rfl
theorem while3_eq (e i j i' j' n : BitVec 32) : cc0_while3 (F := F) e cc0_scoped1 inM inW adjM adjW i j i' j' n = fetchBody e (call3 e) i j i' j' n := by
  rw [cc0_while3_eq_skeleton]; rfl
theorem while4_eq (e i j i' j' n : BitVec 32) : cc0_while4 (F := F) e cc0_scoped1 inM inW adjM adjW i j i' j' n = fetchBody e (call4 e) i j i' j' n := by
  rw [cc0_while4_eq_skeleton]; rfl
theorem while5_eq (e i j i' j' n : BitVec 32) : cc0_while5 (F := F) e cc0_scoped1 inM inW adjM adjW i j i' j' n = fetchBody e (call5 e) i j i' j' n := by
  rw [cc0_while5_eq_skeleton]; rfl
theorem while6_eq (e i j i' j' n : BitVec 32) : cc0_while6 (F := F) e cc0_scoped1 inM inW adjM adjW i j i' j' n = fetchBody e (call6 e) i j i' j' n := by
  rw [cc0_while6_eq_skeleton]; rfl
theorem while7_eq (e i j i' j' n : BitVec 32) : cc0_while7 (F := F) e cc0_scoped1 inM inW adjM adjW i j i' j' n = fetchBody e (call7 e) i j i' j' n := by
  rw [cc0_while7_eq_skeleton]; rfl
theorem while8_eq (e i j i' j' n : BitVec 32) : cc0_while8 (F := F) e cc0_scoped1 inM inW adjM adjW i j i' j' n = fetchBody e (call8 e) i j i' j' n := by
  rw [cc0_while8_eq_skeleton]; rfl
theorem while9_eq (k) (e i j i' j' n : BitVec 32) : cc0_while9 (F := F) k e cc0_scoped1 inM inW adjM adjW i j i' j' n = fetchBody e (call9 k e) i j i' j' n := by
  rw [cc0_while9_eq_skeleton]; rfl

/-! ## The fetch's run -/

section
variable (c : Dev nD) (A : S10000x10000.Idx → Elt F .f32)

/-- `call` is answered by the fetch's body at bound `e`, entered at any smaller variant. -/
def Answers (e : BitVec 32) (call : BitVec 32 → BitVec 32 → BitVec 32 → BitVec 32 → BitVec 32 → Prog (TpuEff nD τ sig (Elt F) (Λ₀ F) .tc) W5) : Prop :=
  ∀ (bd : Option ℕ) (v : ℕ) (hv : ∀ u ∈ bd, v < u) (i j i' j' n : BitVec 32) (Q : W5 → sProp 𝕄),
    wp frame (wpE (defs₀ (F := F)) 𝒱₀ (c : Thread nD τ) (some v)) Set.univ (fetchBody e call i j i' j' n) Q
      ⊢ wp frame (wpE (defs₀ (F := F)) 𝒱₀ (c : Thread nD τ) bd) Set.univ (call i j i' j' n) Q

variable {e : BitVec 32} {call : BitVec 32 → BitVec 32 → BitVec 32 → BitVec 32 → BitVec 32 → Prog (TpuEff nD τ sig (Elt F) (Λ₀ F) .tc) W5}

/-- A fetch whose test fails returns its words. -/
theorem fetch_stop (bd : Option ℕ) (i j i' j' n : BitVec 32) (h : fetchTest e i' j' n = 0#1) (Q : W5 → sProp 𝕄) :
    Q (i, j, i', j', n) ⊢ wp frame (wpE (defs₀ (F := F)) 𝒱₀ (c : Thread nD τ) bd) Set.univ (fetchBody e call i j i' j' n) Q := by
  unfold fetchBody
  rw [if_neg (by rw [h]; decide)]
  rw [Prog.pure_eq_ret, wp_ret]
  iintro H; imodintro; iexact H

/-- With block `p + 1` to fetch and the bound one above the count, the fetch issues the block and returns. -/
theorem fetch_go (H : Answers (F := F) c e call) (p : Fin 124) (he : e = wN (p.val + 2)) (Q : W5 → sProp 𝕄) :
    iprop(home c A (Ring.bk 125 (p.val + 1)) ∗ inFree c (Ring.sl 10 (p.val + 1))
        ∗ (inFlight c A (Ring.sl 10 (p.val + 1)) (Ring.bk 125 (p.val + 1)) -∗ Q (words (p.val + 2))))
      ⊢ wp frame (wpE (defs₀ (F := F)) 𝒱₀ (c : Thread nD τ) none) Set.univ
          (call (wI p.val) (wJ p.val) (wI (p.val + 1)) (wJ (p.val + 1)) (wN (p.val + 1))) Q := by
  refine BIBase.Entails.trans ?_ (H none 1 (fun u hu => nomatch hu) _ _ _ _ _ Q)
  unfold fetchBody
  rw [if_pos (by rw [he]; exact fetchTest_go p)]
  have hc1 := fetch_cond p
  have o4 := fetch_off4 p
  have o5 := fetch_off5 p
  have o6 := fetch_off6 p
  have hw2 : k0_chk2 (wI p.val) (wJ p.val) (wI (p.val + 1)) (wJ (p.val + 1)) := fun _ => by rw [o6]; exact adjOff_inb _
  have hw1 : k0_chk1 (wI p.val) (wJ p.val) (wI (p.val + 1)) (wJ (p.val + 1)) (wN (p.val + 1)) :=
    ⟨fun _ => by rw [o4]; exact inSemOff_inb _, fun _ => by rw [o5]; exact inOff_inb _⟩
  simp only [Prog.lift, Prog.bind_op, Prog.bind_ret, Prog.pure_eq_ret]
  rw [show words (p.val + 2) = (wI (p.val + 1), wJ (p.val + 1), wI (p.val + 2), wJ (p.val + 2), wN (p.val + 2)) from rfl]
  iintro ⟨Hh, Hs, Hk⟩
  iapply (wp_assume 𝒱₀ (c : Thread nD τ) (some 1) Set.univ hw2)
  iapply (wp_assume 𝒱₀ (c : Thread nD τ) (some 1) Set.univ hw1)
  rw [dif_pos hc1]
  simp only [Prog.lift, Prog.bind_op, Prog.bind_ret, Prog.pure_eq_ret]
  simp only [adjBlk_congr o6, inSlot_congr o5, inSem_congr o4]
  iapply (wp_in_issue c A (some 1) (Ring.sl 10 (p.val + 1)) (Ring.bk 125 (p.val + 1))) $$ [Hh Hs]
  · isplitl [Hh]; · iexact Hh
    iexact Hs
  iintro HF
  iapply (H (some 1) 0 (fun u hu => by cases hu; exact Nat.zero_lt_one))
  have e2 := next_eq p
  have e3 := congrArg (fun w : W5 => w.2.2.1) e2
  have e4 := congrArg (fun w : W5 => w.2.2.2.1) e2
  have e5 := congrArg (fun w : W5 => w.2.2.2.2) e2
  simp only [words] at e3 e4 e5
  rw [e3, e4, e5]
  iapply (fetch_stop (F := F) c (e := e) (some 0) _ _ _ _ _ (by rw [he]; exact fetchTest_full ⟨p.val + 2, by omega⟩))
  iapply Hk
  iexact HF

/-- The call of a label is its body entered below. -/
theorem answers_of (h : ∀ (bd : Option ℕ) (v : ℕ) (hv : ∀ u ∈ bd, v < u) (i j i' j' n : BitVec 32) (Q : W5 → sProp 𝕄),
    wp frame (wpE (defs₀ (F := F)) 𝒱₀ (c : Thread nD τ) (some v)) Set.univ (fetchBody e call i j i' j' n)
        (fun x => wp frame (wpE (defs₀ (F := F)) 𝒱₀ (c : Thread nD τ) bd) Set.univ (Prog.ret x) Q)
      ⊢ wp frame (wpE (defs₀ (F := F)) 𝒱₀ (c : Thread nD τ) bd) Set.univ (call i j i' j' n) Q) : Answers c e call :=
  fun bd v hv i j i' j' n Q => BIBase.Entails.trans (wp_mono _ _ _ fun x => by rw [wp_ret]; exact BI.fupd_intro) (h bd v hv i j i' j' n Q)

theorem while1_bound : (2#32 : BitVec 32) = Scalar.select (Scalar.cmpi .ult (Scalar.addi 0#32 10#32) (Scalar.addi (Scalar.addi 0#32 1#32) 1#32)) (Scalar.addi 0#32 10#32) (Scalar.addi (Scalar.addi 0#32 1#32) 1#32) := by decide

theorem answers1 : Answers (F := F) c 2#32 call1 :=
  answers_of c fun bd v hv i j i' j' n Q => by
    rw [while1_bound, ← while1_eq]
    exact wp_call (defs := defs₀ (F := F)) (Γ := []) (k := Prog.ret) (Q := Q) 𝒱₀ (c : Thread nD τ) bd Set.univ (ℓ := (1 : (Λ₀ F).Label)) (a := ⟨cc0_scoped1, inM, inW, adjM, adjW, i, j, i', j', n⟩) v hv
theorem answers2 (e : BitVec 32) : Answers (F := F) c e (call2 e) :=
  answers_of c fun bd v hv i j i' j' n Q => by
    rw [← while2_eq e]
    exact wp_call (defs := defs₀ (F := F)) (Γ := []) (k := Prog.ret) (Q := Q) 𝒱₀ (c : Thread nD τ) bd Set.univ (ℓ := (2 : (Λ₀ F).Label)) (a := ⟨e, cc0_scoped1, inM, inW, adjM, adjW, i, j, i', j', n⟩) v hv
theorem answers3 (e : BitVec 32) : Answers (F := F) c e (call3 e) :=
  answers_of c fun bd v hv i j i' j' n Q => by
    rw [← while3_eq e]
    exact wp_call (defs := defs₀ (F := F)) (Γ := []) (k := Prog.ret) (Q := Q) 𝒱₀ (c : Thread nD τ) bd Set.univ (ℓ := (3 : (Λ₀ F).Label)) (a := ⟨e, cc0_scoped1, inM, inW, adjM, adjW, i, j, i', j', n⟩) v hv
theorem answers4 (e : BitVec 32) : Answers (F := F) c e (call4 e) :=
  answers_of c fun bd v hv i j i' j' n Q => by
    rw [← while4_eq e]
    exact wp_call (defs := defs₀ (F := F)) (Γ := []) (k := Prog.ret) (Q := Q) 𝒱₀ (c : Thread nD τ) bd Set.univ (ℓ := (4 : (Λ₀ F).Label)) (a := ⟨e, cc0_scoped1, inM, inW, adjM, adjW, i, j, i', j', n⟩) v hv
theorem answers5 (e : BitVec 32) : Answers (F := F) c e (call5 e) :=
  answers_of c fun bd v hv i j i' j' n Q => by
    rw [← while5_eq e]
    exact wp_call (defs := defs₀ (F := F)) (Γ := []) (k := Prog.ret) (Q := Q) 𝒱₀ (c : Thread nD τ) bd Set.univ (ℓ := (5 : (Λ₀ F).Label)) (a := ⟨e, cc0_scoped1, inM, inW, adjM, adjW, i, j, i', j', n⟩) v hv
theorem answers6 (e : BitVec 32) : Answers (F := F) c e (call6 e) :=
  answers_of c fun bd v hv i j i' j' n Q => by
    rw [← while6_eq e]
    exact wp_call (defs := defs₀ (F := F)) (Γ := []) (k := Prog.ret) (Q := Q) 𝒱₀ (c : Thread nD τ) bd Set.univ (ℓ := (6 : (Λ₀ F).Label)) (a := ⟨e, cc0_scoped1, inM, inW, adjM, adjW, i, j, i', j', n⟩) v hv
theorem answers7 (e : BitVec 32) : Answers (F := F) c e (call7 e) :=
  answers_of c fun bd v hv i j i' j' n Q => by
    rw [← while7_eq e]
    exact wp_call (defs := defs₀ (F := F)) (Γ := []) (k := Prog.ret) (Q := Q) 𝒱₀ (c : Thread nD τ) bd Set.univ (ℓ := (7 : (Λ₀ F).Label)) (a := ⟨e, cc0_scoped1, inM, inW, adjM, adjW, i, j, i', j', n⟩) v hv
theorem answers8 (e : BitVec 32) : Answers (F := F) c e (call8 e) :=
  answers_of c fun bd v hv i j i' j' n Q => by
    rw [← while8_eq e]
    exact wp_call (defs := defs₀ (F := F)) (Γ := []) (k := Prog.ret) (Q := Q) 𝒱₀ (c : Thread nD τ) bd Set.univ (ℓ := (8 : (Λ₀ F).Label)) (a := ⟨e, cc0_scoped1, inM, inW, adjM, adjW, i, j, i', j', n⟩) v hv
theorem answers9 (k : Fin k0_t1_loop.trips) (e : BitVec 32) : Answers (F := F) c e (call9 k e) :=
  answers_of c fun bd v hv i j i' j' n Q => by
    rw [← while9_eq k e]
    exact wp_call (defs := defs₀ (F := F)) (Γ := []) (k := Prog.ret) (Q := Q) 𝒱₀ (c : Thread nD τ) bd Set.univ (ℓ := (9 : (Λ₀ F).Label)) (a := ⟨k, e, cc0_scoped1, inM, inW, adjM, adjW, i, j, i', j', n⟩) v hv
end

end Cert.Proof.K
-- ==== Proof.K.Rings.lean ====
/-
  What the two rings hold before a trip, and how a trip moves it on: the nine blocks in flight and the free tenth slot
  of the input ring with the row blocks at home, the row blocks of the result that are done and those to come with the
  two slots of the output ring. Blocks and slots are counted by natural numbers, so that a trip takes one end off a run
  and puts it on another.
-/
module

public import proofs.«01_k».proof.Proof.K.Fetch
public import Idealize.SL.BI.BigOpNat
public import Idealize.ShloMosaic.Lib.Ring.Trips

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
/-- Over no number there is nothing to hold. -/
theorem run_empty {M : Type _} [URA M] {a b : ℕ} (h : b ≤ a) (P : ℕ → sProp M) : bigSep (Finset.Ico a b) P = iprop(emp) := by
  rw [Finset.Ico_eq_empty_of_le h, bigSep_empty]; rfl

/-- A family that repeats after `n` numbers is the same over any `n` of them in a row. -/
theorem run_turn {M : Type _} [URA M] {n : ℕ} {P : ℕ → sProp M} (h : ∀ k, P (k + n) = P k) (a : ℕ) :
    bigSep (Finset.Ico a (a + n)) P = bigSep (Finset.range n) P := by
  induction a with
  | zero => rw [Nat.zero_add, Finset.range_eq_Ico]
  | succ a ih =>
    rw [← ih]
    rcases Nat.eq_zero_or_pos n with rfl | hn
    · rw [run_empty (by omega), run_empty (by omega)]
    · rw [bigSep_Ico_succ_bot (show a < a + n by omega), show a + 1 + n = a + n + 1 by omega,
        bigSep_Ico_succ_top (show a + 1 ≤ a + n by omega), h]

section
variable (c : Dev nD) (A : S10000x10000.Idx → Elt F .f32) (O : Fin 125 → Vec F S1x80x256 .f32)

/-- The `p`-th block of the schedule in its slot: in flight, or past the last block the slot free. -/
def role (p : ℕ) : sProp 𝕄 := if p < 125 then inFlight c A (Ring.sl 10 p) (Ring.bk 125 p) else inFree c (Ring.sl 10 p)
theorem role_lt {p : ℕ} (h : p < 125) : role c A p = inFlight c A (Ring.sl 10 p) (Ring.bk 125 p) := if_pos h
theorem role_ge {p : ℕ} (h : ¬ p < 125) : role c A p = inFree c (Ring.sl 10 p) := if_neg h
/-- The blocks `a … b - 1` at home. -/
abbrev homes (a b : ℕ) : sProp 𝕄 := bigSep (Finset.Ico a b) fun p => home c A (Ring.bk 125 p)

/-- Before the loop, with `p` blocks issued. -/
def ringPre (p : ℕ) : sProp 𝕄 :=
  iprop(bigSep (Finset.Ico 0 p) (role c A) ∗ bigSep (Finset.Ico p 10) (fun s => inFree c (Ring.sl 10 s)) ∗ homes c A p 125)
/-- Before trip `k`. -/
def ringIn (k : ℕ) : sProp 𝕄 :=
  iprop(bigSep (Finset.Ico k (k + 9)) (role c A) ∗ inFree c (Ring.sl 10 (k + 9)) ∗ homes c A 0 k ∗ homes c A (k + 9) 125)
/-- In trip `k`, after the fetch. -/
def ringMid (k : ℕ) : sProp 𝕄 :=
  iprop(bigSep (Finset.Ico k (k + 10)) (role c A) ∗ homes c A 0 k ∗ homes c A (k + 10) 125)

/-- One more block is issued before the loop. -/
theorem ringPre_step (p : ℕ) (hp : p < 9) : ringPre c A p ⊢ iprop(home c A (Ring.bk 125 p) ∗ inFree c (Ring.sl 10 p)
    ∗ (inFlight c A (Ring.sl 10 p) (Ring.bk 125 p) -∗ ringPre c A (p + 1))) := by
  unfold ringPre homes
  rw [bigSep_Ico_succ_bot (show p < 10 by omega), bigSep_Ico_succ_bot (show p < 125 by omega),
    bigSep_Ico_succ_top (Nat.zero_le p) (role c A), role_lt c A (show p < 125 by omega)]
  iintro ⟨Hr, ⟨Hs, Hf⟩, Hh, Hhs⟩
  isplitl [Hh]; · iexact Hh
  isplitl [Hs]; · iexact Hs
  iintro HF
  isplitl [HF Hr]; · isplitl [HF]; · iexact HF
                     iexact Hr
  isplitl [Hf]; · iexact Hf
  iexact Hhs

/-- With nine issued the loop starts. -/
theorem ringPre_nine : ringPre c A 9 ⊢ ringIn c A 0 := by
  unfold ringPre ringIn homes
  rw [bigSep_Ico_one, run_empty (Nat.le_refl 0) fun p => home c A (Ring.bk 125 p)]
  iintro ⟨Hr, Hs, Hh⟩
  isplitl [Hr]; · iexact Hr
  isplitl [Hs]; · iexact Hs
  isplitr; · iempintro
  iexact Hh

/-- A trip that still has a block to fetch issues it into the free slot. -/
theorem ringIn_fetch (k : ℕ) (hk : k < 116) : ringIn c A k ⊢ iprop(home c A (Ring.bk 125 (k + 9)) ∗ inFree c (Ring.sl 10 (k + 9))
    ∗ (inFlight c A (Ring.sl 10 (k + 9)) (Ring.bk 125 (k + 9)) -∗ ringMid c A k)) := by
  unfold ringIn ringMid homes
  rw [bigSep_Ico_succ_bot (show k + 9 < 125 by omega), bigSep_Ico_succ_top (show k ≤ k + 9 by omega) (role c A),
    role_lt c A (show k + 9 < 125 by omega)]
  iintro ⟨Hr, Hs, H0, Hh, Hhs⟩
  isplitl [Hh]; · iexact Hh
  isplitl [Hs]; · iexact Hs
  iintro HF
  isplitl [HF Hr]; · isplitl [HF]; · iexact HF
                     iexact Hr
  isplitl [H0]; · iexact H0
  iexact Hhs

/-- One of the last trips fetches nothing. -/
theorem ringIn_none (k : ℕ) (hk : 116 ≤ k) : ringIn c A k ⊢ ringMid c A k := by
  unfold ringIn ringMid homes
  rw [run_empty (show 125 ≤ k + 9 by omega), run_empty (show 125 ≤ k + 10 by omega),
    bigSep_Ico_succ_top (show k ≤ k + 9 by omega) (role c A), role_ge c A (show ¬ k + 9 < 125 by omega)]
  iintro ⟨Hr, Hs, H0, He⟩
  isplitl [Hs Hr]; · isplitl [Hs]; · iexact Hs
                     iexact Hr
  isplitl [H0]; · iexact H0
  iexact He

/-- Block `k` lands, is read and its slot is free again. -/
theorem ringMid_step (k : ℕ) (hk : k < 125) : ringMid c A k ⊢ iprop(inFlight c A (Ring.sl 10 k) (Ring.bk 125 k)
    ∗ (home c A (Ring.bk 125 k) -∗ inFree c (Ring.sl 10 k) -∗ ringIn c A (k + 1))) := by
  unfold ringIn ringMid homes
  rw [bigSep_Ico_succ_bot (show k < k + 10 by omega) (role c A), role_lt c A hk,
    bigSep_Ico_succ_top (Nat.zero_le k) (fun p => home c A (Ring.bk 125 p)), show k + 1 + 9 = k + 10 by omega, Ring.sl_add 10 k]
  iintro ⟨⟨HF, Hr⟩, H0, Hh⟩
  isplitl [HF]; · iexact HF
  iintro Hk Hs
  isplitl [Hr]; · iexact Hr
  isplitl [Hs]; · iexact Hs
  isplitl [Hk H0]; · isplitl [Hk]; · iexact Hk
                     iexact H0
  iexact Hh

/-- After the last trip every slot is free and every block at home. -/
theorem ringIn_last : ringIn c A 125 ⊢ iprop(bigSep (Finset.range 10) (fun s => inFree c (Ring.sl 10 s)) ∗ homes c A 0 125) := by
  unfold ringIn homes
  rw [run_empty (show 125 ≤ 125 + 9 by omega),
    bigSep_congr (Φ := role c A) (Ψ := fun s => inFree c (Ring.sl 10 s)) (fun p h => role_ge c A (by have := (Finset.mem_Ico.mp h).1; omega)),
    ← run_turn (P := fun s => inFree (F := F) c (Ring.sl 10 s)) (fun p => by rw [Ring.sl_add]) 125,
    bigSep_Ico_succ_top (show 125 ≤ 125 + 9 by omega) (fun s => inFree c (Ring.sl 10 s))]
  iintro ⟨Hr, Hs, H0, He⟩
  isplitl [Hr Hs]; · isplitl [Hs]; · iexact Hs
                     iexact Hr
  iexact H0

/-- The blocks `a … b - 1` of the result done, and to come. -/
abbrev dones (a b : ℕ) : sProp 𝕄 := bigSep (Finset.Ico a b) fun p => done c O (Ring.bk 125 p)
abbrev todos (a b : ℕ) : sProp 𝕄 := bigSep (Finset.Ico a b) fun p => todo (F := F) c (Ring.bk 125 p)
/-- The output slot trip `k` does not write: free before the first trip, else in flight with the block before. -/
def other (k : ℕ) : sProp 𝕄 :=
  if k = 0 then outFree c (Ring.sl 2 (k + 1)) else outFlight c O (Ring.sl 2 (k - 1)) (Ring.bk 125 (k - 1))
/-- In trip `k`, besides the block it writes. -/
def ringRest (k : ℕ) : sProp 𝕄 := iprop(dones c O 0 (k - 1) ∗ todos c (k + 1) 125 ∗ other c O k)
/-- Before trip `k`. -/
def ringOut (k : ℕ) : sProp 𝕄 := iprop(dones c O 0 (k - 1) ∗ todos c k 125 ∗ other c O k ∗ outFree c (Ring.sl 2 k))

theorem ringOut_take (k : ℕ) (hk : k < 125) :
    ringOut c O k ⊢ iprop(outFree c (Ring.sl 2 k) ∗ todo c (Ring.bk 125 k) ∗ ringRest c O k) := by
  unfold ringOut ringRest todos
  rw [bigSep_Ico_succ_bot hk]
  iintro ⟨Hd, ⟨Ht, Hts⟩, Ho, Hs⟩
  isplitl [Hs]; · iexact Hs
  isplitl [Ht]; · iexact Ht
  isplitl [Hd]; · iexact Hd
  isplitl [Hts]; · iexact Hts
  iexact Ho

/-- The first trip waits for nothing. -/
theorem ringRest_first (k : ℕ) (hk : k = 0) :
    iprop(ringRest c O k ∗ outFlight c O (Ring.sl 2 k) (Ring.bk 125 k)) ⊢ ringOut c O (k + 1) := by
  subst hk
  unfold ringOut ringRest other
  rw [if_pos rfl, if_neg (by omega)]
  iintro ⟨⟨Hd, Hts, Ho⟩, HF⟩
  isplitl [Hd]; · iexact Hd
  isplitl [Hts]; · iexact Hts
  isplitl [HF]; · iexact HF
  iexact Ho

/-- Every later trip waits for the block before it. -/
theorem ringRest_step (k : ℕ) (hk : k ≠ 0) : iprop(ringRest c O k ∗ outFlight c O (Ring.sl 2 k) (Ring.bk 125 k))
    ⊢ iprop(outFlight c O (Ring.sl 2 (k - 1)) (Ring.bk 125 (k - 1))
      ∗ (done c O (Ring.bk 125 (k - 1)) -∗ outFree c (Ring.sl 2 (k - 1)) -∗ ringOut c O (k + 1))) := by
  obtain ⟨n, rfl⟩ := Nat.exists_eq_succ_of_ne_zero hk
  unfold ringOut ringRest other dones
  rw [if_neg hk, if_neg (by omega)]
  simp only [Nat.succ_eq_add_one, Nat.add_sub_cancel]
  rw [bigSep_Ico_succ_top (Nat.zero_le n) (fun p => done c O (Ring.bk 125 p)), show n + 1 + 1 = n + 2 from rfl, Ring.sl_add 2 n]
  iintro ⟨⟨Hd, Hts, Ho⟩, HF⟩
  isplitl [Ho]; · iexact Ho
  iintro Hn Hs
  isplitl [Hd Hn]; · isplitl [Hn]; · iexact Hn
                     iexact Hd
  isplitl [Hts]; · iexact Hts
  isplitl [HF]; · iexact HF
  iexact Hs

/-- After the last trip only block 124 is in flight. -/
theorem ringOut_last : ringOut c O 125 ⊢ iprop(outFlight c O (Ring.sl 2 124) (Ring.bk 125 124)
    ∗ (done c O (Ring.bk 125 124) -∗ outFree c (Ring.sl 2 124) -∗ dones c O 0 125 ∗ bigSep (Finset.range 2) (fun s => outFree c (Ring.sl 2 s)))) := by
  unfold ringOut other dones
  rw [if_neg (by omega), bigSep_Ico_succ_top (show 0 ≤ 124 by omega) (fun p => done c O (Ring.bk 125 p)),
    ← run_turn (P := fun s => outFree (F := F) c (Ring.sl 2 s)) (fun p => by rw [Ring.sl_add]) 124,
    bigSep_Ico_succ_top (show 124 ≤ 124 + 1 by omega) (fun s => outFree c (Ring.sl 2 s)), bigSep_Ico_one]
  iintro ⟨Hd, Hts, Ho, Hs⟩
  isplitl [Ho]; · iexact Ho
  iintro Hn Hs'
  isplitl [Hd Hn]; · isplitl [Hn]; · iexact Hn
                     iexact Hd
  isplitl [Hs]; · iexact Hs
  iexact Hs'

end

/-- A family over the slots or blocks is the same family over the numbers below their count. -/
theorem bigSep_fin_range {M : Type _} [URA M] (n : ℕ) [NeZero n] (Φ : Fin n → sProp M) :
    bigSep Finset.univ Φ = bigSep (Finset.range n) fun k => Φ (Fin.ofNat n k) := by
  have h : (Finset.univ : Finset (Fin n)).map Fin.valEmbedding = Finset.range n := by
    ext k; simp only [Finset.mem_map, Finset.mem_univ, true_and, Fin.valEmbedding_apply, Finset.mem_range]
    exact ⟨fun ⟨i, hi⟩ => hi ▸ i.isLt, fun hk => ⟨⟨k, hk⟩, rfl⟩⟩
  rw [← h, bigSep_map]
  exact bigSep_congr fun i _ => congrArg Φ (Fin.ext (Nat.mod_eq_of_lt i.isLt).symm)

end Cert.Proof.K
-- ==== Proof.K.Words.lean ====
/-
  The words of one trip in closed form. Before trip `k` the carried words are: the number of blocks issued, the count
  of blocks consumed (`k`), the block issued last, the count of blocks produced (`k`), the count of write-backs waited
  for, and block `k` itself on the 25 by 5 grid of blocks. Each statement ranges over the 125 trips and is decided.
-/
module

public import proofs.«01_k».proof.Proof.K.Fetch

@[expose] public section

set_option maxRecDepth 16384

noncomputable section

namespace Cert.Proof.K

open Cert.KernelIdeal Cert.KernelIdeal.Gen
open Idealize.ShloMosaic
open Idealize.ShloMosaic.TcCoe

/-- The blocks issued before trip `k`. -/
abbrev issued (k : ℕ) : ℕ := min (k + 9) 125
abbrev W8 : Type := BitVec 32 × BitVec 32 × BitVec 32 × BitVec 32 × BitVec 32 × BitVec 32 × BitVec 32 × BitVec 32
/-- The carried words before trip `k`. -/
abbrev accAt (k : ℕ) : W8 :=
  (wN (issued k), wN k, wI (issued k - 1), wJ (issued k - 1), wN k, wN (k - 1), wI (k % 125), wJ (k % 125))

theorem trips_eq : k0_t1_loop.trips = 125 := by decide +kernel

/-! ## The previous and the next block's words -/

/-- The block before `(i, j)`. -/
abbrev prevJ (j : BitVec 32) : BitVec 32 :=
  Scalar.addi (Scalar.select (Scalar.cmpi .eq (Scalar.select 1#1 (Scalar.subi j 1#32) j) 4294967295#32) 4#32 (Scalar.select 1#1 (Scalar.subi j 1#32) j)) 0#32
abbrev prevI (i j : BitVec 32) : BitVec 32 :=
  let b := Scalar.cmpi .eq (Scalar.select 1#1 (Scalar.subi j 1#32) j) 4294967295#32
  let a := Scalar.select b (Scalar.subi i 1#32) i
  Scalar.addi (Scalar.select (Scalar.cmpi .eq a 4294967295#32) 24#32 a) 0#32
/-- The block after `(i, j)`. -/
abbrev succJ (j : BitVec 32) : BitVec 32 :=
  Scalar.select (Scalar.cmpi .eq (Scalar.select 1#1 (Scalar.addi j 1#32) j) 5#32) 0#32 (Scalar.select 1#1 (Scalar.addi j 1#32) j)
abbrev succI (i j : BitVec 32) : BitVec 32 :=
  let a := Scalar.select (Scalar.cmpi .eq (Scalar.select 1#1 (Scalar.addi j 1#32) j) 5#32) (Scalar.addi i 1#32) i
  Scalar.select (Scalar.cmpi .eq a 25#32) 0#32 a
/-- A block's number from its two words. -/
abbrev blockNo (i j : BitVec 32) : BitVec 32 := Scalar.addi (Scalar.muli i 5#32) j
/-- The trip number as a word. -/
abbrev tripW (k : Fin k0_t1_loop.trips) : BitVec 32 := Scf.iv 0#32 1#32 k

/-! ## The side conditions and the branches -/

theorem cond10_eq : ∀ k : Fin k0_t1_loop.trips, k0_cond10 k (wI (k.val % 125)) (wJ (k.val % 125)) = 1#1 := by decide +kernel
theorem cond13_eq : ∀ k : Fin k0_t1_loop.trips, k0_cond13 k (wI (k.val % 125)) (wJ (k.val % 125)) = 1#1 := by decide +kernel
theorem cond15_pos : ∀ k : Fin k0_t1_loop.trips, k.val ≠ 0 → k0_cond15 k (wI (k.val % 125)) (wJ (k.val % 125)) = 1#1 := by decide +kernel
theorem cond15_zero : ∀ k : Fin k0_t1_loop.trips, k.val = 0 → ¬ k0_cond15 k (wI (k.val % 125)) (wJ (k.val % 125)) = 1#1 := by decide +kernel

theorem off31_eq : ∀ k : Fin k0_t1_loop.trips, k0_off31 (wN k.val) = inSemOff (Ring.sl 10 k.val) := by decide +kernel
theorem off32_eq : ∀ k : Fin k0_t1_loop.trips, k0_off32 (wN k.val) = inOff (Ring.sl 10 k.val) := by decide +kernel
theorem off33_eq : ∀ k : Fin k0_t1_loop.trips, k0_off33 (wI (k.val % 125)) (wJ (k.val % 125)) = adjOff (Ring.bk 125 k.val) := by decide +kernel
theorem off34_eq : ∀ k : Fin k0_t1_loop.trips, k0_off34 (wN k.val) = inOff (Ring.sl 10 k.val) := by decide +kernel
theorem off35_eq : ∀ k : Fin k0_t1_loop.trips, k0_off35 (wN k.val) = outOff (Ring.sl 2 k.val) := by decide +kernel
theorem off36_eq : ∀ k : Fin k0_t1_loop.trips, k0_off36 (wN k.val) = outSemOff (Ring.sl 2 k.val) := by decide +kernel
theorem off37_eq : ∀ k : Fin k0_t1_loop.trips, k0_off37 (wI (k.val % 125)) (wJ (k.val % 125)) = resOff (Ring.bk 125 k.val) := by decide +kernel
theorem off38_eq : ∀ k : Fin k0_t1_loop.trips, k0_off38 (wN k.val) = outOff (Ring.sl 2 k.val) := by decide +kernel
theorem off39_eq : ∀ k : Fin k0_t1_loop.trips, k0_off39 (wN (k.val - 1)) = outSemOff (Ring.sl 2 (k.val - 1)) := by decide +kernel
theorem off40_eq : ∀ k : Fin k0_t1_loop.trips, k.val ≠ 0 → k0_off40 (wI (k.val % 125)) (wJ (k.val % 125)) = resOff (Ring.bk 125 (k.val - 1)) := by decide +kernel
theorem off41_eq : ∀ k : Fin k0_t1_loop.trips, k0_off41 (wN (k.val - 1)) = outOff (Ring.sl 2 (k.val - 1)) := by decide +kernel

section
variable (k : Fin k0_t1_loop.trips)
theorem chk20 : k0_chk20 (wN k.val) := by unfold k0_chk20; rw [off34_eq k]; exact inOff_inb _
theorem chk21 : k0_chk21 (wN k.val) := by unfold k0_chk21; rw [off35_eq k]; exact outOff_inb _
theorem chk19 : k0_chk19 k (wN k.val) (wN k.val) (wN (k.val - 1)) (wI (k.val % 125)) (wJ (k.val % 125)) :=
  ⟨fun _ => by rw [off31_eq k]; exact inSemOff_inb _, fun _ => by rw [off32_eq k]; exact inOff_inb _, fun _ => by rw [off33_eq k]; exact adjOff_inb _,
    fun _ => by rw [off36_eq k]; exact outSemOff_inb _, fun _ => by rw [off37_eq k]; exact resOff_inb _, fun _ => by rw [off38_eq k]; exact outOff_inb _,
    fun _ => by rw [off39_eq k]; exact outSemOff_inb _,
    fun h => by
      by_cases h0 : k.val = 0
      · exact absurd h (cond15_zero k h0)
      · rw [off40_eq k h0]; exact resOff_inb _,
    fun _ => by rw [off41_eq k]; exact outOff_inb _⟩
end

/-! ## The fetch of trip `k` -/

theorem fetchI_eq : ∀ k : Fin k0_t1_loop.trips, nextI (wI (issued k.val - 1)) (wJ (issued k.val - 1)) = wI (issued k.val) := by decide +kernel
theorem fetchJ_eq : ∀ k : Fin k0_t1_loop.trips, nextJ (wJ (issued k.val - 1)) = wJ (issued k.val) := by decide +kernel
theorem fetchE_eq : ∀ k : Fin k0_t1_loop.trips, Scalar.addi (wN k.val) 10#32 = wN (k.val + 10) := by decide +kernel
/-- Past the last block the test fails. -/
theorem fetch_none : ∀ k : Fin k0_t1_loop.trips, 116 ≤ k.val → fetchTest (wN (k.val + 10)) (wI 125) (wJ 125) (wN 125) = 0#1 := by decide +kernel

/-! ## The words carried on -/

/-- Whether the block `(i, j)` differs from the next one, or the trip is the last one. -/
abbrev lastUse (k : Fin k0_t1_loop.trips) (i j : BitVec 32) : BitVec 1 :=
  Scalar.ori (Scalar.cmpi .ne (blockNo (Scalar.addi i 0#32) (Scalar.addi j 0#32)) (blockNo (Scalar.addi (succI i j) 0#32) (Scalar.addi (succJ j) 0#32)))
    (Scalar.cmpi .eq (tripW k) 124#32)

theorem consumed_eq : ∀ k : Fin k0_t1_loop.trips,
    Scalar.select (lastUse k (wI (k.val % 125)) (wJ (k.val % 125))) (Scalar.addi (wN k.val) 1#32) (wN k.val) = wN (k.val + 1) := by decide +kernel
theorem produced_eq : ∀ k : Fin k0_t1_loop.trips,
    Scalar.select (Scalar.andi (lastUse k (wI (k.val % 125)) (wJ (k.val % 125))) 1#1) (Scalar.addi (wN k.val) 1#32) (wN k.val) = wN (k.val + 1) := by decide +kernel
theorem waited_eq : ∀ k : Fin k0_t1_loop.trips,
    Scalar.select (Scalar.andi (Scalar.andi
        (Scalar.cmpi .ne (blockNo (Scalar.addi (wI (k.val % 125)) 0#32) (Scalar.addi (wJ (k.val % 125)) 0#32)) (blockNo (prevI (wI (k.val % 125)) (wJ (k.val % 125))) (prevJ (wJ (k.val % 125)))))
        (Scalar.xori (Scalar.cmpi .eq (tripW k) 0#32) 1#1)) 1#1)
      (Scalar.addi (wN (k.val - 1)) 1#32) (wN (k.val - 1)) = wN k.val := by decide +kernel
theorem stepI_eq : ∀ k : Fin k0_t1_loop.trips, succI (wI (k.val % 125)) (wJ (k.val % 125)) = wI ((k.val + 1) % 125) := by decide +kernel
theorem stepJ_eq : ∀ k : Fin k0_t1_loop.trips, succJ (wJ (k.val % 125)) = wJ ((k.val + 1) % 125) := by decide +kernel

/-! ## The first and the last transfers -/

theorem off42_eq : k0_off42 (wN 124) = outSemOff (Ring.sl 2 124) := by decide +kernel
theorem off43_eq : k0_off43 (wJ (125 % 125)) (wI (125 % 125)) = resOff (Ring.bk 125 124) := by decide +kernel
theorem off44_eq : k0_off44 (wN 124) = outOff (Ring.sl 2 124) := by decide +kernel
theorem chk22 : k0_chk22 (wN 124) := ⟨by rw [off42_eq]; exact outSemOff_inb _, by rw [off44_eq]; exact outOff_inb _⟩
theorem chk23 : k0_chk23 (wJ (125 % 125)) (wI (125 % 125)) := by unfold k0_chk23; rw [off43_eq]; exact resOff_inb _

end Cert.Proof.K
-- ==== Proof.K.Trip.lean ====
/-
  One trip of the loop: the fetch of a later block, the wait for the trip's own block, its product stored into the
  output ring and sent on its way, and the wait for the block sent the trip before.
-/
module

public import proofs.«01_k».proof.Proof.K.Rings
public import proofs.«01_k».proof.Proof.K.Words

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (A : S10000x10000.Idx → Elt F .f32) (O : Fin 125 → Vec F S1x80x256 .f32) (k : Fin k0_t1_loop.trips)

theorem trip_lt : k.val < 125 := lt_of_lt_of_eq k.isLt trips_eq

/-- The fetch of trip `k`: the block nine ahead, or past the last block nothing. -/
theorem fetch_trip (Q : W5 → sProp 𝕄) :
    iprop(ringIn c A k.val ∗ (ringMid c A k.val -∗ Q (words (issued (k.val + 1)))))
      ⊢ wp frame (wpE (defs₀ (F := F)) 𝒱₀ (c : Thread nD τ) none) Set.univ
          (call9 k (wN (k.val + 10)) (wI (issued k.val - 1)) (wJ (issued k.val - 1))
            (nextI (wI (issued k.val - 1)) (wJ (issued k.val - 1))) (nextJ (wJ (issued k.val - 1))) (wN (issued k.val))) Q := by
  have hk := trip_lt k
  rw [fetchI_eq k, fetchJ_eq k]
  by_cases h : k.val < 116
  · have e : issued k.val = k.val + 8 + 1 := by unfold issued; omega
    have e' : issued (k.val + 1) = k.val + 8 + 2 := by unfold issued; omega
    rw [e, e']
    refine BIBase.Entails.trans ?_ (fetch_go c A (answers9 c k (wN (k.val + 10))) ⟨k.val + 8, by omega⟩ rfl Q)
    iintro ⟨HR, HQ⟩
    ihave HR' := (ringIn_fetch c A k.val h) $$ HR
    icases HR' with ⟨Hh, Hs, HR⟩
    isplitl [Hh]; · iexact Hh
    isplitl [Hs]; · iexact Hs
    iintro HF
    iapply HQ
    iapply HR
    iexact HF
  · have e : issued k.val = 125 := by unfold issued; omega
    have e' : issued (k.val + 1) = 125 := by unfold issued; omega
    rw [e, e']
    refine BIBase.Entails.trans ?_ (answers9 c k (wN (k.val + 10)) none 1 (fun u hu => nomatch hu) _ _ _ _ _ Q)
    refine BIBase.Entails.trans ?_ (fetch_stop c (some 1) _ _ _ _ _ (fetch_none k (by omega)) Q)
    iintro ⟨HR, HQ⟩
    rw [show words 125 = (wI (125 - 1), wJ (125 - 1), wI 125, wJ 125, wN 125) from rfl]
    iapply HQ
    iapply (ringIn_none c A k.val (by omega))
    iexact HR

theorem wp_in_load_at {α : Type} (bd : Option ℕ) (s : Fin 10) (b : Fin 125) {off : Fin 3 → Nat} (e : off = inOff s) {hh h1}
    {k : Vec F S1x80x10000 .f32 → Prog (TpuEff nD τ sig (Elt F) (Λ₀ F) .tc) α} {Q : α → sProp 𝕄} :
    inAt c s (inAll A b) ⊢ iprop((inAt c s (inAll A b) -∗ wp frame (wpE (defs₀ (F := F)) 𝒱₀ (c : Thread nD τ) bd) Set.univ (k (blockVal A b)) Q)
      -∗ wp frame (wpE (defs₀ (F := F)) 𝒱₀ (c : Thread nD τ) bd) Set.univ
          (.op (.load inM (Rect.unit (s := S10x80x10000) off S1x80x10000.size hh).toLoadRect h1) k) Q) := by
  subst e; exact wp_in_load c A bd s b
theorem wp_out_load_at {α : Type} (bd : Option ℕ) (s : Fin 2) {off : Fin 3 → Nat} (e : off = outOff s) {hh h1}
    {k : Vec F S1x80x256 .f32 → Prog (TpuEff nD τ sig (Elt F) (Λ₀ F) .tc) α} {Q : α → sProp 𝕄} :
    outFree c s ⊢ iprop((∀ x, outFree c s -∗ wp frame (wpE (defs₀ (F := F)) 𝒱₀ (c : Thread nD τ) bd) Set.univ (k x) Q)
      -∗ wp frame (wpE (defs₀ (F := F)) 𝒱₀ (c : Thread nD τ) bd) Set.univ
          (.op (.load outM (Rect.unit (s := S2x80x256) off S1x80x256.size hh).toLoadRect h1) k) Q) := by
  subst e; exact wp_out_load c bd s
theorem wp_out_store_at {α : Type} (bd : Option ℕ) (s : Fin 2) (o : Vec F S1x80x256 .f32) {off : Fin 3 → Nat} (e : off = outOff s) {hh h1 h2}
    {k : PUnit → Prog (TpuEff nD τ sig (Elt F) (Λ₀ F) .tc) α} {Q : α → sProp 𝕄} :
    outFree c s ⊢ iprop((outAt c s (outAll o) -∗ wp frame (wpE (defs₀ (F := F)) 𝒱₀ (c : Thread nD τ) bd) Set.univ (k ⟨⟩) Q)
      -∗ wp frame (wpE (defs₀ (F := F)) 𝒱₀ (c : Thread nD τ) bd) Set.univ
          (.op (.store outM (Rect.unit (s := S2x80x256) off S1x80x256.size hh) o Finset.univ h1 h2) k) Q) := by
  subst e; exact wp_out_store c bd s o

/-- The first half of a trip: fetch, wait, read. -/
theorem part5 (h20 : k0_chk20 (wN k.val)) (h19 : k0_chk19 k (wN k.val) (wN k.val) (wN (k.val - 1)) (wI (k.val % 125)) (wJ (k.val % 125)))
    (a6 : BitVec 32) (v356 : BitVec 1) (i j pi pj ni nj : BitVec 32)
    (Q : (Σ' (v486_0 : BitVec 32) (v486_1 : BitVec 32) (v486_4 : BitVec 32) (v488 : BitVec 32) (v490 : BitVec 32) (v496 : BitVec 32) (v498 : BitVec 32) (v506 : BitVec 32) (v514 : BitVec 32), FVec F S80x10000 .bf16) → sProp 𝕄) :
    iprop(ringIn c A k.val ∗ (∃ W, owes (c : Thread nD τ) 0 W)
        ∗ ((ringIn c A (k.val + 1) ∗ ∃ W, owes (c : Thread nD τ) 0 W) -∗
            Q ⟨wI (issued (k.val + 1) - 1), wJ (issued (k.val + 1) - 1), wN (issued (k.val + 1)), blockNo i j, blockNo ni nj, blockNo i j,
              blockNo pi pj, blockNo pi pj, Scalar.remui (wN k.val) 2#32, k0_pay1 (blockVal A (Ring.bk 125 k.val))⟩))
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3
            k (wN (issued k.val)) (wN k.val) (wI (issued k.val - 1)) (wJ (issued k.val - 1)) (wN k.val) (wN (k.val - 1)) (wI (k.val % 125)) (wJ (k.val % 125))
            h20 h19 a6 v356 i j pi pj ni nj (wN (k.val + 10))
            (Scalar.select 1#1 (Scalar.addi (wJ (issued k.val - 1)) 1#32) (wJ (issued k.val - 1))) 5#32) Q := by
  rw [k0_part5_eq_skeleton]; unfold k0_part5_skel
  dsimp only
  rw [wp_bind]
  refine BIBase.Entails.trans ?_ (fetch_trip c A k _)
  rw [dif_pos (cond10_eq k)]
  simp only [ite_self, Prog.lift, Prog.bind_op, Prog.bind_ret, Prog.pure_eq_ret]
  iintro ⟨HR, HW, HQ⟩
  isplitl [HR]; · iexact HR
  iintro HR
  ihave HR' := (ringMid_step c A k.val (trip_lt k)) $$ HR
  icases HR' with ⟨HF, HR⟩
  simp only [inSem_congr (off31_eq k), inSlot_congr (off32_eq k), adjBlk_congr (off33_eq k)]
  iapply (wp_in_wait c A none (Ring.sl 10 k.val) (Ring.bk 125 k.val)) $$ [HF HW]
  · isplitl [HF]; · iexact HF
    iexact HW
  iintro ⟨Hh, Hs, HW⟩
  iapply (wp_in_load_at c A none (Ring.sl 10 k.val) (Ring.bk 125 k.val) (off34_eq k)) $$ Hs
  iintro Hs
  rw [wp_ret]; imodintro
  iapply HQ
  isplitr [HW]
  · iapply HR $$ [Hh] [Hs]
    · iexact Hh
    · unfold inFree; iexists _; iexact Hs
  · iexact HW

theorem off00 : (![0, 0] : Fin 2 → Nat) = fun _ => 0 := by decide

omit [FloatOps F] in
/-- A load of the whole buffer of hidden rows, or of the bias, reads what the buffer holds. -/
theorem read_hidden (h : S10000x256.Idx → Elt F .bf16) :
    View.readAt (Elt F) hM.view (Rect.unit (s := S10000x256) ![0, 0] S10000x256.size inb_S10000x256_S10000x256_0_0).toLoadRect h = h :=
  Memref.readAt_unit_zero (Elt F) cc0_scratch0 off00 _ h
omit [FloatOps F] in
theorem read_bias (bi : S1x256.Idx → Elt F .f32) :
    View.readAt (Elt F) (Memref.whole cc0_stg2_0).view (Rect.unit (s := S1x256) ![0, 0] S1x256.size inb_S1x256_S1x256_0_0).toLoadRect bi = bi :=
  Memref.readAt_unit_zero (Elt F) cc0_stg2_0 off00 _ bi

/-- The hidden rows and the bias, held whole. -/
def operands (h : S10000x256.Idx → Elt F .bf16) (bi : S1x256.Idx → Elt F .f32) : sProp 𝕄 :=
  iprop((((c : Thread nD τ).loc cc0_scratch0) ↦{fullShare} h) ∗ (((c : Thread nD τ).loc cc0_stg2_0) ↦{fullShare} bi))

variable (h : S10000x256.Idx → Elt F .bf16) (bi : S1x256.Idx → Elt F .f32)

/-- The second half of a trip: multiply, store, send, wait for the block sent before. -/
theorem part6 (h21 : k0_chk21 (wN k.val)) (h19 : k0_chk19 k (wN k.val) (wN k.val) (wN (k.val - 1)) (wI (k.val % 125)) (wJ (k.val % 125)))
    (v356 v357 : BitVec 1) (i j pi pj ni nj b1 b2 b3 b4 b5 b6 : BitVec 32)
    (Q : (Σ' (v530 : BitVec 32) (v542 : BitVec 32) (v554 : BitVec 1), BitVec 32) → sProp 𝕄) :
    iprop(ringOut c (prod A h bi) k.val ∗ operands c h bi ∗ (∃ W, owes (c : Thread nD τ) 0 W)
        ∗ ((ringOut c (prod A h bi) (k.val + 1) ∗ operands c h bi ∗ ∃ W, owes (c : Thread nD τ) 0 W) -∗
            Q ⟨blockNo ni nj, Scalar.select (Scalar.andi (Scalar.ori (Scalar.cmpi .ne b1 b2) v357) 1#1) (Scalar.addi (wN k.val) 1#32) (wN k.val),
              Scalar.andi (Scalar.andi (Scalar.cmpi .ne b1 b5) (Scalar.xori v356 1#1)) 1#1, 1#32⟩))
      ⊢ wp frame (wpE (defs₀ (F := F)) 𝒱₀ (c : Thread nD τ) none) Set.univ
          (k0_part6 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3
            k (wN k.val) (wN k.val) (wN (k.val - 1)) (wI (k.val % 125)) (wJ (k.val % 125))
            h21 h19 v356 v357 i j pi pj ni nj b1 b2 b3 b4 b5 b6 (k0_pay1 (blockVal A (Ring.bk 125 k.val)))) Q := by
  rw [k0_part6_eq_skeleton]; unfold k0_part6_skel operands
  dsimp only
  rw [dif_pos (cond13_eq k)]
  simp only [ite_self, Prog.lift, Prog.bind_op, Prog.bind_ret, Prog.pure_eq_ret]
  iintro ⟨HR, ⟨Hh, Hb⟩, HW, HQ⟩
  iapply (wp_load 𝒱₀ (c : Thread nD τ) none Set.univ (m := hM) (Finset.subset_univ _)) $$ Hh; iintro Hh
  iapply (wp_load 𝒱₀ (c : Thread nD τ) none Set.univ (m := Memref.whole cc0_stg2_0) (Finset.subset_univ _)) $$ Hb; iintro Hb
  ihave HR' := (ringOut_take c (prod A h bi) k.val (trip_lt k)) $$ HR
  icases HR' with ⟨Hs, Ht, HR⟩
  iapply (wp_out_load_at c none (Ring.sl 2 k.val) (off35_eq k)) $$ Hs
  iintro %x Hs
  rw [read_hidden h, read_bias bi]
  iapply (wp_out_store_at c none (Ring.sl 2 k.val) (prod A h bi (Ring.bk 125 k.val)) (off35_eq k)) $$ Hs
  iintro Hs
  simp only [outSem_congr (off36_eq k), outSlot_congr (off38_eq k), resBlk_congr (off37_eq k)]
  iapply (wp_out_issue c (prod A h bi) none (Ring.sl 2 k.val) (Ring.bk 125 k.val)) $$ [Hs Ht]
  · isplitl [Hs]; · iexact Hs
    iexact Ht
  iintro HF
  by_cases h0 : k.val = 0
  · rw [dif_neg (cond15_zero k h0), wp_ret]
    imodintro
    iapply HQ
    isplitl [HR HF]
    · iapply (ringRest_first c (prod A h bi) k.val h0)
      isplitl [HR]; · iexact HR
      iexact HF
    isplitl [Hh Hb]
    · isplitl [Hh]; · iexact Hh
      iexact Hb
    iexact HW
  · rw [dif_pos (cond15_pos k h0)]
    simp only [outSem_congr (off39_eq k), outSlot_congr (off41_eq k), resBlk_congr (off40_eq k h0)]
    ihave HR' := (ringRest_step c (prod A h bi) k.val h0) $$ [HR HF]
    · isplitl [HR]; · iexact HR
      iexact HF
    icases HR' with ⟨HF, HR⟩
    iapply (wp_out_wait c (prod A h bi) none (Ring.sl 2 (k.val - 1)) (Ring.bk 125 (k.val - 1))) $$ [HF HW]
    · isplitl [HF]; · iexact HF
      iexact HW
    iintro ⟨Hd, Hs, HW⟩
    rw [wp_ret]; imodintro
    iapply HQ
    isplitl [HR Hd Hs]
    · iapply HR $$ [Hd] [Hs]
      · iexact Hd
      · iexact Hs
    isplitl [Hh Hb]
    · isplitl [Hh]; · iexact Hh
      iexact Hb
    iexact HW

end

end Cert.Proof.K
-- ==== Proof.K.Loop.lean ====
/-
  The loop: its invariant, kept by every trip.
-/
module

public import proofs.«01_k».proof.Proof.K.Trip

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (A : S10000x10000.Idx → Elt F .f32) (h : S10000x256.Idx → Elt F .bf16) (bi : S1x256.Idx → Elt F .f32)

/-- The words a trip works out for later use by nobody: whatever they are, the trip goes on. -/
theorem part2_any {a0 b0 a1 b1 a2 b2 a3 b3 a4 b4 a5 b5 a6 b6 a7 a8 b8 a9 x y z w}
    (Q : (Σ' (v413 : BitVec 32) (v415 : BitVec 32), BitVec 1) → sProp 𝕄) :
    iprop(∀ r, Q r) ⊢ wp frame (wpE (defs₀ (F := F)) 𝒱₀ (c : Thread nD τ) none) Set.univ
      (k0_part2 (F := F) a0 b0 a1 b1 a2 b2 a3 b3 a4 b4 a5 b5 a6 b6 a7 a8 b8 a9 x y z w) Q := by
  rw [k0_part2_eq_skeleton]; unfold k0_part2_skel
  dsimp only
  rw [Prog.pure_eq_ret, wp_ret]
  iintro H; imodintro; iapply H
theorem part3_any {a0 b0 a1 b1 a2 b2 a3 b3 a4 b4 a5 b5 a6 b6 a7 a8 b8 a9 x y z}
    (Q : (Σ' (v443 : BitVec 32) (v447 : BitVec 32), BitVec 32) → sProp 𝕄) :
    iprop(∀ r, Q r) ⊢ wp frame (wpE (defs₀ (F := F)) 𝒱₀ (c : Thread nD τ) none) Set.univ
      (k0_part3 (F := F) a0 b0 a1 b1 a2 b2 a3 b3 a4 b4 a5 b5 a6 b6 a7 a8 b8 a9 x y z) Q := by
  rw [k0_part3_eq_skeleton]; unfold k0_part3_skel
  dsimp only
  rw [Prog.pure_eq_ret, wp_ret]
  iintro H; imodintro; iapply H

/-- What the loop holds before trip `k`. -/
def inv (k : ℕ) (acc : W8) : sProp 𝕄 :=
  iprop(⌜acc = accAt k⌝ ∗ ringIn c A k ∗ ringOut c (prod A h bi) k ∗ operands c h bi ∗ ∃ W, owes (c : Thread nD τ) 0 W)

/-- The loop's body on the kernel's buffers. -/
abbrev tripBody (w0 w1 w2 w3 w4 : BitVec 32) (k : Fin k0_t1_loop.trips) (acc : W8) : Prog (TpuEff nD τ sig (Elt F) (Λ₀ F) .tc) W8 :=
  k0_t1_body (F := F) (Memref.whole cc0_stg0_0) (Memref.isWhole_whole _) (Memref.whole cc0_stg1_0) (Memref.isWhole_whole _)
    (Memref.whole cc0_stg2_0) (Memref.isWhole_whole _) adjM (Memref.isWhole_whole _) resM (Memref.isWhole_whole _) hM (Memref.isWhole_whole _)
    inM (Memref.isWhole_whole _) cc0_scoped1 outM (Memref.isWhole_whole _) cc0_scoped3 w0 w1 w2 w3 w4 k acc

theorem trip (w0 w1 w2 w3 w4 : BitVec 32) (k : Fin k0_t1_loop.trips) (acc : W8) :
    inv c A h bi k.val acc ⊢ wp frame (wpE (defs₀ (F := F)) 𝒱₀ (c : Thread nD τ) none) Set.univ
      (tripBody (F := F) w0 w1 w2 w3 w4 k acc) (inv c A h bi (k.val + 1)) := by
  unfold inv
  iintro ⟨%he, HI, HO, Hh, HW⟩
  subst he
  unfold tripBody k0_t1_body accAt
  dsimp only
  rw [wp_bind, k0_part1_eq_skeleton]
  unfold k0_part1_skel
  simp only [Prog.lift, Prog.bind_op, Prog.bind_ret, Prog.pure_eq_ret]
  iapply (wp_assume 𝒱₀ (c : Thread nD τ) none Set.univ (chk21 k))
  iapply (wp_assume 𝒱₀ (c : Thread nD τ) none Set.univ (chk20 k))
  iapply (wp_assume 𝒱₀ (c : Thread nD τ) none Set.univ (chk19 k))
  rw [wp_ret]; imodintro
  dsimp only
  rw [wp_bind]
  iapply part2_any
  iintro %r2
  rw [wp_bind]
  iapply part3_any
  iintro %r3
  rw [wp_bind, k0_part4_eq_skeleton]
  unfold k0_part4_skel
  dsimp only
  rw [Prog.pure_eq_ret, wp_ret]; imodintro
  dsimp only
  rw [wp_bind, fetchE_eq k]
  iapply (part5 c A k (chk20 k) (chk19 k))
  isplitl [HI]; · iexact HI
  isplitl [HW]; · iexact HW
  iintro ⟨HI, HW⟩
  dsimp only
  rw [wp_bind]
  iapply (part6 c A k h bi (chk21 k) (chk19 k))
  isplitl [HO]; · iexact HO
  isplitl [Hh]; · iexact Hh
  isplitl [HW]; · iexact HW
  iintro ⟨HO, Hh, HW⟩
  dsimp only
  rw [wp_ret]; imodintro
  isplitr
  · ipureintro
    exact congrArg₂ Prod.mk rfl (congrArg₂ Prod.mk (consumed_eq k) (congrArg₂ Prod.mk rfl (congrArg₂ Prod.mk rfl
      (congrArg₂ Prod.mk (produced_eq k) (congrArg₂ Prod.mk (waited_eq k) (congrArg₂ Prod.mk (stepI_eq k) (stepJ_eq k)))))))
  isplitl [HI]; · iexact HI
  isplitl [HO]; · iexact HO
  isplitl [Hh]; · iexact Hh
  iexact HW

end

end Cert.Proof.K
-- ==== Proof.K.Prologue.lean ====
/-
  Before the loop: the hidden rows `x · W` are computed and kept, then the first nine row blocks are issued, the first
  one by the kernel itself and the eight others by eight fetches.
-/
module

public import proofs.«01_k».proof.Proof.K.Loop

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (A : S10000x10000.Idx → Elt F .f32)

/-- The first block, issued into the first slot. -/
theorem off1_eq : k0_off1 = inSemOff (Ring.sl 10 0) := by decide +kernel
theorem off2_eq : k0_off2 = inOff (Ring.sl 10 0) := by decide +kernel
theorem off3_eq : k0_off3 = adjOff (Ring.bk 125 0) := by decide +kernel

/-- The features and the weights, held whole in their windows' buffers. -/
def staged (x : S10000x256.Idx → Elt F .f32) (W : S256x256.Idx → Elt F .f32) : sProp 𝕄 :=
  iprop((((c : Thread nD τ).loc cc0_stg0_0) ↦{fullShare} x) ∗ (((c : Thread nD τ).loc cc0_stg1_0) ↦{fullShare} W))

omit [FloatOps F] in
theorem read_features (x : S10000x256.Idx → Elt F .f32) :
    View.readAt (Elt F) (Memref.whole cc0_stg0_0).view (Rect.unit (s := S10000x256) ![0, 0] S10000x256.size inb_S10000x256_S10000x256_0_0).toLoadRect x = x :=
  Memref.readAt_unit_zero (Elt F) cc0_stg0_0 off00 _ x
omit [FloatOps F] in
theorem read_weights (W : S256x256.Idx → Elt F .f32) :
    View.readAt (Elt F) (Memref.whole cc0_stg1_0).view (Rect.unit (s := S256x256) ![0, 0] S256x256.size inb_S256x256_S256x256_0_0).toLoadRect W = W :=
  Memref.readAt_unit_zero (Elt F) cc0_stg1_0 off00 _ W
omit [FloatOps F] in
theorem write_hidden (f w : S10000x256.Idx → Elt F .bf16) :
    (hM.access (Rect.unit (s := S10000x256) ![0, 0] S10000x256.size inb_S10000x256_S10000x256_0_0) : View sig .tc _ _ _).write (Elt F) f w Finset.univ = w :=
  Memref.write_access_unit_zero_univ (Elt F) cc0_scratch0 off00 _ f w

/-- The hidden rows are computed and stored. -/
theorem part7 (x : S10000x256.Idx → Elt F .f32) (W : S256x256.Idx → Elt F .f32)
    {R : sProp 𝕄} {Q : (Σ' (v24 : BitVec 32) (v28 : BitVec 32), BitVec 32) → sProp 𝕄}
    (hQ : ∀ r, iprop((staged c x W ∗ (((c : Thread nD τ).loc cc0_scratch0) ↦{fullShare} k0_pay3 x W)) ∗ R) ⊢ Q r) :
    iprop((staged c x W ∗ (∃ f, ((c : Thread nD τ).loc cc0_scratch0) ↦{fullShare} f)) ∗ R)
      ⊢ wp frame (wpE (defs₀ (F := F)) 𝒱₀ (c : Thread nD τ) none) Set.univ
          (k0_part7 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3) Q := by
  rw [k0_part7_eq_skeleton]; unfold k0_part7_skel staged
  simp only [Prog.lift, Prog.bind_op, Prog.bind_ret, Prog.pure_eq_ret]
  have hQ' := hQ; unfold staged at hQ'
  iintro ⟨⟨⟨Hx, HW⟩, ⟨%f, Hh⟩⟩, HR⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ HW; iintro HW
  iapply (wp_load 𝒱₀ (c : Thread nD τ) none Set.univ (m := hM) (Finset.subset_univ _)) $$ Hh; iintro Hh
  iapply (wp_store 𝒱₀ (c : Thread nD τ) none Set.univ (m := hM)
    (r := Rect.unit (s := S10000x256) ![0, 0] S10000x256.size inb_S10000x256_S10000x256_0_0) (Mk := Finset.univ) (f := f) (Finset.subset_univ _)) $$ [Hh]
  · iexact Hh
  iintro Hh
  rw [read_features x, read_weights W, write_hidden]
  rw [wp_ret]; imodintro
  iapply hQ'
  isplitr [HR]
  · isplitl [Hx HW]
    · isplitl [Hx]; · iexact Hx
      iexact HW
    iexact Hh
  iexact HR

/-- Block `p + 1`'s fetch, before the loop. -/
theorem fetch_pre (p : Fin 8) {e : BitVec 32} {call} (H : Answers (F := F) c e call) {i j i' j' n : BitVec 32}
    (hw : (e, i, j, i', j', n) = (wN (p.val + 2), wI p.val, wJ p.val, wI (p.val + 1), wJ (p.val + 1), wN (p.val + 1)))
    {R : sProp 𝕄} {Q : W5 → sProp 𝕄} (h : iprop(ringPre c A (p.val + 2) ∗ R) ⊢ Q (words (p.val + 2))) :
    iprop(ringPre c A (p.val + 1) ∗ R) ⊢ wp frame (wpE (defs₀ (F := F)) 𝒱₀ (c : Thread nD τ) none) Set.univ (call i j i' j' n) Q := by
  obtain ⟨rfl, rfl, rfl, rfl, rfl, rfl⟩ : e = _ ∧ i = _ ∧ j = _ ∧ i' = _ ∧ j' = _ ∧ n = _ := by
    simpa only [Prod.mk.injEq] using hw
  refine BIBase.Entails.trans ?_ (fetch_go c A H ⟨p.val, by omega⟩ rfl Q)
  have hp := p.isLt
  iintro ⟨HR, Hr⟩
  ihave HR' := (ringPre_step c A (p.val + 1) (by omega)) $$ HR
  icases HR' with ⟨Hh, Hs, HR⟩
  isplitl [Hh]; · iexact Hh
  isplitl [Hs]; · iexact Hs
  iintro HF
  iapply h
  isplitl [HR HF]
  · iapply HR; iexact HF
  iexact Hr

/-- The first block is issued by the kernel, the second by the first fetch. -/
theorem part11 {R : sProp 𝕄} {Q : (Σ' (v140_0 : BitVec 32) (v140_1 : BitVec 32) (v140_4 : BitVec 32) (v144 : BitVec 32) (v148 : BitVec 32) (v150 : BitVec 32) (false_135 : BitVec 1), BitVec 32) → sProp 𝕄}
    (h : iprop(ringPre c A 2 ∗ R) ⊢ Q ⟨wI 1, wJ 1, wN 2, wN 3, wJ 2, wI 2, 0#1, 0#32⟩) :
    iprop(ringPre c A 0 ∗ R) ⊢ wp frame (wpE (defs₀ (F := F)) 𝒱₀ (c : Thread nD τ) none) Set.univ
          (k0_part11 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3) Q := by
  rw [k0_part11_eq_skeleton]; unfold k0_part11_skel
  dsimp only
  simp only [inSem_congr off1_eq, inSlot_congr off2_eq, adjBlk_congr off3_eq]
  rw [wp_bind]
  simp only [Prog.lift]
  iintro ⟨HR, Hr⟩
  ihave HR' := (ringPre_step c A 0 (by omega)) $$ HR
  icases HR' with ⟨Hh, Hs, HR⟩
  iapply (wp_in_issue c A none (Ring.sl 10 0) (Ring.bk 125 0)) $$ [Hh Hs]
  · isplitl [Hh]; · iexact Hh
    iexact Hs
  iintro HF
  rw [wp_ret]; imodintro
  rw [wp_bind]
  iapply (fetch_pre c A 0 (answers1 c) (i := 0#32) (j := 0#32) (i' := wI 1) (j' := wJ 1) (n := wN 1) (by decide +kernel) (R := R) ?_)
  · rw [Prog.pure_eq_ret, wp_ret]
    exact BIBase.Entails.trans h BI.fupd_intro
  · isplitl [HR HF]
    · iapply HR; iexact HF
    iexact Hr

/-- Three more blocks, by three fetches. -/
theorem part12 {R : sProp 𝕄} {Q : (Σ' (v176_0 : BitVec 32) (v176_1 : BitVec 32) (v176_4 : BitVec 32) (v180 : BitVec 32) (v182 : BitVec 32) (v183 : BitVec 1), BitVec 32) → sProp 𝕄}
    (h : iprop(ringPre c A 5 ∗ R) ⊢ Q ⟨wI 4, wJ 4, wN 5, wN 6, 5#32, 1#1, 0#32⟩) :
    iprop(ringPre c A 2 ∗ R) ⊢ wp frame (wpE (defs₀ (F := F)) 𝒱₀ (c : Thread nD τ) none) Set.univ
          (k0_part12 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3
            (wI 1) (wJ 1) (wN 2) (wN 3) (wJ 2) (wI 2) 0#1 0#32) Q := by
  rw [k0_part12_eq_skeleton]; unfold k0_part12_skel
  dsimp only
  rw [wp_bind]
  refine fetch_pre c A 1 (answers2 c _) (by decide +kernel) ?_
  dsimp only
  rw [wp_bind]
  refine fetch_pre c A 2 (answers3 c _) (by decide +kernel) ?_
  dsimp only
  rw [wp_bind]
  refine fetch_pre c A 3 (answers4 c _) (by decide +kernel) ?_
  dsimp only
  rw [Prog.pure_eq_ret, wp_ret]
  exact BIBase.Entails.trans h BI.fupd_intro

/-- Three more. -/
theorem part13 {R : sProp 𝕄} {Q : (Σ' (v212_0 : BitVec 32) (v212_1 : BitVec 32) (v212_4 : BitVec 32) (v216 : BitVec 32), BitVec 32) → sProp 𝕄}
    (h : iprop(ringPre c A 8 ∗ R) ⊢ Q ⟨wI 7, wJ 7, wN 8, wN 9, 1#32⟩) :
    iprop(ringPre c A 5 ∗ R) ⊢ wp frame (wpE (defs₀ (F := F)) 𝒱₀ (c : Thread nD τ) none) Set.univ
          (k0_part13 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3
            (wI 4) (wJ 4) (wN 5) (wN 6) 5#32 1#1 0#32) Q := by
  rw [k0_part13_eq_skeleton]; unfold k0_part13_skel
  dsimp only
  rw [wp_bind]
  refine fetch_pre c A 4 (answers5 c _) (by decide +kernel) ?_
  dsimp only
  rw [wp_bind]
  refine fetch_pre c A 5 (answers6 c _) (by decide +kernel) ?_
  dsimp only
  rw [wp_bind]
  refine fetch_pre c A 6 (answers7 c _) (by decide +kernel) ?_
  dsimp only
  rw [Prog.pure_eq_ret, wp_ret]
  exact BIBase.Entails.trans h BI.fupd_intro

end

end Cert.Proof.K
-- ==== Proof.K.Body.lean ====
/-
  The kernel's body: the hidden rows, the first nine blocks, the loop and the wait for the last block.
-/
module

public import proofs.«01_k».proof.Proof.K.Prologue

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (A : S10000x10000.Idx → Elt F .f32)

/-! The parts that only work out words no transfer uses: whatever the words, the kernel goes on. -/

theorem part8_any {a0 b0 a1 b1 a2 b2 a3 b3 a4 b4 a5 b5 a6 b6 a7 a8 b8 a9 x y z} {P : sProp 𝕄}
    {Q : (Σ' (v54 : BitVec 32) (v59 : BitVec 1), BitVec 32) → sProp 𝕄} (h : ∀ r, P ⊢ Q r) :
    P ⊢ wp frame (wpE (defs₀ (F := F)) 𝒱₀ (c : Thread nD τ) none) Set.univ
      (k0_part8 (F := F) a0 b0 a1 b1 a2 b2 a3 b3 a4 b4 a5 b5 a6 b6 a7 a8 b8 a9 x y z) Q := by
  rw [k0_part8_eq_skeleton]; unfold k0_part8_skel
  dsimp only
  rw [Prog.pure_eq_ret, wp_ret]
  exact BIBase.Entails.trans (h _) BI.fupd_intro
theorem part9_any {a0 b0 a1 b1 a2 b2 a3 b3 a4 b4 a5 b5 a6 b6 a7 a8 b8 a9 x y z} {P : sProp 𝕄}
    {Q : (Σ' (v90 : BitVec 32), BitVec 32) → sProp 𝕄} (h : ∀ r, P ⊢ Q r) :
    P ⊢ wp frame (wpE (defs₀ (F := F)) 𝒱₀ (c : Thread nD τ) none) Set.univ
      (k0_part9 (F := F) a0 b0 a1 b1 a2 b2 a3 b3 a4 b4 a5 b5 a6 b6 a7 a8 b8 a9 x y z) Q := by
  rw [k0_part9_eq_skeleton]; unfold k0_part9_skel
  dsimp only
  rw [Prog.pure_eq_ret, wp_ret]
  exact BIBase.Entails.trans (h _) BI.fupd_intro
theorem part10_any {a0 b0 a1 b1 a2 b2 a3 b3 a4 b4 a5 b5 a6 b6 a7 a8 b8 a9 x y} {P : sProp 𝕄}
    {Q : PUnit → sProp 𝕄} (h : ∀ r, P ⊢ Q r) :
    P ⊢ wp frame (wpE (defs₀ (F := F)) 𝒱₀ (c : Thread nD τ) none) Set.univ
      (k0_part10 (F := F) a0 b0 a1 b1 a2 b2 a3 b3 a4 b4 a5 b5 a6 b6 a7 a8 b8 a9 x y) Q := by
  rw [k0_part10_eq_skeleton]; unfold k0_part10_skel
  dsimp only
  rw [Prog.pure_eq_ret, wp_ret]
  exact BIBase.Entails.trans (h _) BI.fupd_intro
theorem part15_any {a0 b0 a1 b1 a2 b2 a3 b3 a4 b4 a5 b5 a6 b6 a7 a8 b8 a9 x y z u v w} {P : sProp 𝕄}
    {Q : (Σ' (v270 : BitVec 32), BitVec 32) → sProp 𝕄} (h : ∀ r, P ⊢ Q r) :
    P ⊢ wp frame (wpE (defs₀ (F := F)) 𝒱₀ (c : Thread nD τ) none) Set.univ
      (k0_part15 (F := F) a0 b0 a1 b1 a2 b2 a3 b3 a4 b4 a5 b5 a6 b6 a7 a8 b8 a9 x y z u v w) Q := by
  rw [k0_part15_eq_skeleton]; unfold k0_part15_skel
  dsimp only
  rw [Prog.pure_eq_ret, wp_ret]
  exact BIBase.Entails.trans (h _) BI.fupd_intro
theorem part16_any {a0 b0 a1 b1 a2 b2 a3 b3 a4 b4 a5 b5 a6 b6 a7 a8 b8 a9 x y} {P : sProp 𝕄}
    {Q : (Σ' (v300 : BitVec 32) (v304 : BitVec 32), BitVec 32) → sProp 𝕄} (h : ∀ r, P ⊢ Q r) :
    P ⊢ wp frame (wpE (defs₀ (F := F)) 𝒱₀ (c : Thread nD τ) none) Set.univ
      (k0_part16 (F := F) a0 b0 a1 b1 a2 b2 a3 b3 a4 b4 a5 b5 a6 b6 a7 a8 b8 a9 x y) Q := by
  rw [k0_part16_eq_skeleton]; unfold k0_part16_skel
  dsimp only
  rw [Prog.pure_eq_ret, wp_ret]
  exact BIBase.Entails.trans (h _) BI.fupd_intro
theorem part17_any {a0 b0 a1 b1 a2 b2 a3 b3 a4 b4 a5 b5 a6 b6 a7 a8 b8 a9 x y z} {P : sProp 𝕄}
    {Q : (Σ' (v334 : BitVec 32), BitVec 32) → sProp 𝕄} (h : ∀ r, P ⊢ Q r) :
    P ⊢ wp frame (wpE (defs₀ (F := F)) 𝒱₀ (c : Thread nD τ) none) Set.univ
      (k0_part17 (F := F) a0 b0 a1 b1 a2 b2 a3 b3 a4 b4 a5 b5 a6 b6 a7 a8 b8 a9 x y z) Q := by
  rw [k0_part17_eq_skeleton]; unfold k0_part17_skel
  dsimp only
  rw [Prog.pure_eq_ret, wp_ret]
  exact BIBase.Entails.trans (h _) BI.fupd_intro

variable (h : S10000x256.Idx → Elt F .bf16) (bi : S1x256.Idx → Elt F .f32)

/-- What the loop leaves. -/
def after : sProp 𝕄 := iprop(ringIn c A 125 ∗ ringOut c (prod A h bi) 125 ∗ operands c h bi ∗ ∃ W, owes (c : Thread nD τ) 0 W)

/-- The ninth block's fetch and the loop. -/
theorem part14 {R : sProp 𝕄} {Q : (Σ' (v226_5 : BitVec 32) (v226_6 : BitVec 32) (v226_7 : BitVec 32) (k0_hw23 : k0_chk23 v226_7 v226_6) (k0_hw22 : k0_chk22 v226_5) (v230 : BitVec 32) (v234 : BitVec 32) (v235 : BitVec 32) (v236 : BitVec 32) (v240 : BitVec 32) (v242 : BitVec 32) (v243 : BitVec 1), BitVec 32) → sProp 𝕄}
    (hQ : ∀ x1 x2 x3 x4 x5 x6 x7 x8, iprop(after c A h bi ∗ R) ⊢ Q ⟨wN 124, wI (125 % 125), wJ (125 % 125), chk23, chk22, x1, x2, x3, x4, x5, x6, x7, x8⟩) :
    iprop(ringPre c A 8 ∗ ringOut c (prod A h bi) 0 ∗ operands c h bi ∗ (∃ W, owes (c : Thread nD τ) 0 W) ∗ R)
      ⊢ wp frame (wpE (defs₀ (F := F)) 𝒱₀ (c : Thread nD τ) none) Set.univ
          (k0_part14 (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3
            (wI 7) (wJ 7) (wN 8) (wN 9) 1#32) Q := by
  rw [k0_part14_eq_skeleton]; unfold k0_part14_skel
  dsimp only
  rw [wp_bind]
  refine fetch_pre c A 7 (answers8 c _) (by decide +kernel) ?_
  dsimp only
  rw [wp_bind]
  refine BIBase.Entails.trans ?_ (Scf.wp_for frame (wpE (defs₀ (F := F)) 𝒱₀ (c : Thread nD τ) none) Set.univ _ _ _ _ _ _
    (inv c A h bi) (trip c A h bi _ _ _ _ _))
  iintro ⟨HI, HO, Hh, HW, HR⟩
  isplitl [HI HO Hh HW]
  · unfold inv
    isplitr; · ipureintro; rfl
    isplitl [HI]; · iapply (ringPre_nine c A); iexact HI
    isplitl [HO]; · iexact HO
    isplitl [Hh]; · iexact Hh
    iexact HW
  iintro %acc H
  rw [show Scf.trips k0_t1_loop.lb k0_t1_loop.ub k0_t1_loop.st = 125 from trips_eq]
  unfold inv
  icases H with ⟨%he, HI, HO, Hh, HW⟩
  subst he
  unfold accAt
  dsimp only
  simp only [Prog.lift, Prog.bind_op, Prog.bind_ret, Prog.pure_eq_ret]
  iapply (wp_assume 𝒱₀ (c : Thread nD τ) none Set.univ chk23)
  iapply (wp_assume 𝒱₀ (c : Thread nD τ) none Set.univ chk22)
  rw [wp_ret]; imodintro
  iapply hQ
  isplitr [HR]
  · unfold after
    isplitl [HI]; · iexact HI
    isplitl [HO]; · iexact HO
    isplitl [Hh]; · iexact Hh
    iexact HW
  iexact HR

/-- The buffers the body's run starts from, -/
def start (x : S10000x256.Idx → Elt F .f32) (W : S256x256.Idx → Elt F .f32) : sProp 𝕄 :=
  iprop(staged c x W ∗ (∃ f, ((c : Thread nD τ).loc cc0_scratch0) ↦{fullShare} f) ∗ (((c : Thread nD τ).loc cc0_stg2_0) ↦{fullShare} bi)
    ∗ ringPre c A 0 ∗ ringOut c (prod A (k0_pay3 x W) bi) 0 ∗ ∃ V, owes (c : Thread nD τ) 0 V)
/-- and those it ends with. -/
def finish (x : S10000x256.Idx → Elt F .f32) (W : S256x256.Idx → Elt F .f32) : sProp 𝕄 :=
  iprop(staged c x W ∗ operands c (k0_pay3 x W) bi ∗ (bigSep (Finset.range 10) fun s => inFree c (Ring.sl 10 s)) ∗ homes c A 0 125
    ∗ dones c (prod A (k0_pay3 x W) bi) 0 125 ∗ (bigSep (Finset.range 2) fun s => outFree c (Ring.sl 2 s)) ∗ ∃ V, owes (c : Thread nD τ) 0 V)

theorem body_run (x : S10000x256.Idx → Elt F .f32) (W : S256x256.Idx → Elt F .f32) (Q : PUnit → sProp 𝕄) :
    iprop(start c A bi x W ∗ (finish c A bi x W -∗ Q ⟨⟩))
      ⊢ wp frame (wpE (defs₀ (F := F)) 𝒱₀ (c : Thread nD τ) none) Set.univ
          (cc0_outer (F := F) (Memref.whole cc0_stg0_0) (Memref.isWhole_whole _) (Memref.whole cc0_stg1_0) (Memref.isWhole_whole _)
            (Memref.whole cc0_stg2_0) (Memref.isWhole_whole _) adjM (Memref.isWhole_whole _) resM (Memref.isWhole_whole _) hM (Memref.isWhole_whole _)
            inM (Memref.isWhole_whole _) cc0_scoped1 outM (Memref.isWhole_whole _) cc0_scoped3) Q := by
  rw [cc0_outer_eq_skeleton]; unfold cc0_outer_skel start
  dsimp only
  rw [wp_bind]
  refine BIBase.Entails.trans (Q := iprop((staged c x W ∗ (∃ f, ((c : Thread nD τ).loc cc0_scratch0) ↦{fullShare} f))
    ∗ ((((c : Thread nD τ).loc cc0_stg2_0) ↦{fullShare} bi) ∗ ringPre c A 0 ∗ ringOut c (prod A (k0_pay3 x W) bi) 0
      ∗ (∃ V, owes (c : Thread nD τ) 0 V) ∗ (finish c A bi x W -∗ Q ⟨⟩)))) ?_ (part7 c x W fun r7 => ?_)
  · iintro ⟨⟨Hst, Hs, Hb, HI, HO, HW⟩, HQ⟩
    isplitl [Hst Hs]
    · isplitl [Hst]; · iexact Hst
      iexact Hs
    isplitl [Hb]; · iexact Hb
    isplitl [HI]; · iexact HI
    isplitl [HO]; · iexact HO
    isplitl [HW]; · iexact HW
    iexact HQ
  rw [wp_bind]
  refine BIBase.Entails.trans (Q := iprop(ringPre c A 0 ∗ ringOut c (prod A (k0_pay3 x W) bi) 0 ∗ operands c (k0_pay3 x W) bi
    ∗ (∃ V, owes (c : Thread nD τ) 0 V) ∗ staged c x W ∗ (finish c A bi x W -∗ Q ⟨⟩))) ?_ ?_
  · unfold operands
    iintro ⟨⟨Hst, Hh⟩, Hb, HI, HO, HW, HQ⟩
    isplitl [HI]; · iexact HI
    isplitl [HO]; · iexact HO
    isplitl [Hh Hb]
    · isplitl [Hh]; · iexact Hh
      iexact Hb
    isplitl [HW]; · iexact HW
    isplitl [Hst]; · iexact Hst
    iexact HQ
  refine part8_any c fun r8 => ?_
  rw [wp_bind]
  refine part9_any c fun r9 => ?_
  rw [wp_bind]
  refine part10_any c fun r10 => ?_
  rw [wp_bind]
  refine part11 c A ?_
  dsimp only
  rw [wp_bind]
  refine part12 c A ?_
  dsimp only
  rw [wp_bind]
  refine part13 c A ?_
  dsimp only
  rw [wp_bind]
  refine part14 c A (k0_pay3 x W) bi fun _ _ _ _ _ _ _ _ => ?_
  dsimp only
  rw [wp_bind]
  refine part15_any c fun r15 => ?_
  rw [wp_bind]
  refine part16_any c fun r16 => ?_
  rw [wp_bind]
  refine part17_any c fun r17 => ?_
  simp only [outSem_congr off42_eq, outSlot_congr off44_eq, resBlk_congr off43_eq]
  simp only [Prog.lift, Prog.bind_op, Prog.bind_ret, Prog.pure_eq_ret]
  unfold after finish
  iintro ⟨⟨HI, HO, Hh, HW⟩, Hst, HQ⟩
  ihave HO' := (ringOut_last c (prod A (k0_pay3 x W) bi)) $$ HO
  icases HO' with ⟨HF, HO⟩
  iapply (wp_out_wait c (prod A (k0_pay3 x W) bi) none (Ring.sl 2 124) (Ring.bk 125 124)) $$ [HF HW]
  · isplitl [HF]; · iexact HF
    iexact HW
  iintro ⟨Hd, Hs, HW⟩
  rw [wp_ret]; imodintro
  ihave HO' := HO $$ Hd Hs
  icases HO' with ⟨HD, HS⟩
  ihave HI' := (ringIn_last c A) $$ HI
  icases HI' with ⟨HF, HH⟩
  iapply HQ
  isplitl [Hst]; · iexact Hst
  isplitl [Hh]; · iexact Hh
  isplitl [HF]; · iexact HF
  isplitl [HH]; · iexact HH
  isplitl [HD]; · iexact HD
  isplitl [HS]; · iexact HS
  iexact HW

end

end Cert.Proof.K
-- ==== Proof.K.Blocks.lean ====
module

public import proofs.«01_k».proof.Proof.K.Body
public import Idealize.ShloMosaic.Lib.Pipeline.Frame

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (A : S10000x10000.Idx → Elt F .f32) (O : Fin 125 → Vec F S1x80x256 .f32)

/-- The kernel's own semaphores: the ten of the input ring and the two of the output ring. -/
abbrev osem : Fin 10 ⊕ Fin 2 → SemLoc sig
  | .inl s => .dma (inSem s).sem
  | .inr s => .dma (outSem s).sem
theorem ownSemFacts : Pipeline.OwnSemFacts spec0 osem := by decide +kernel

omit [FloatOps F] in
theorem ownSems_eq : (Pipeline.ownSems0 (Ix := Unit) (Name := ℕ) (U := UU nD τ) (Lvl := ℕ) (Val := Elt F) (τ := τ) osem c : sProp 𝕄)
    = iprop((bigSep Finset.univ fun s : Fin 10 => semVal ((c : Thread nD τ), SemLoc.dma (inSem s).sem) 0)
      ∗ bigSep Finset.univ fun s : Fin 2 => semVal ((c : Thread nD τ), SemLoc.dma (outSem s).sem) 0) := by
  unfold Pipeline.ownSems0; rw [bigSep_univ_sum]; rfl

/-- The adjacency matrix whole is its row blocks at home. -/
theorem homes_whole : (((c : Thread nD τ).loc main_arg1) ↦{fullShare} A : sProp 𝕄) = homes c A 0 125 := by
  rw [Ring.pointsTo_blocks (ℓ := (c : Thread nD τ).loc main_arg1) (fun b => (adjRect b).set) adj_disjoint adj_cover]
  refine (bigSep_congr fun b _ => ?_).trans ((bigSep_fin_range 125 (home c A)).trans ?_)
  · unfold home; rw [adjBlk_set]; rfl
  · unfold homes; rw [Finset.range_eq_Ico]

/-- The result whole is its row blocks done. -/
theorem dones_whole : dones c O 0 125 = (((c : Thread nD τ).loc main_v1) ↦{fullShare} resAll O : sProp 𝕄) := by
  rw [Ring.pointsTo_blocks (ℓ := (c : Thread nD τ).loc main_v1) (fun b => (resRect b).set) res_disjoint res_cover]
  symm
  refine (bigSep_congr fun b _ => ?_).trans ((bigSep_fin_range 125 (done c O)).trans ?_)
  · unfold done; rw [resBlk_set]; rfl
  · unfold dones; rw [Finset.range_eq_Ico]

/-- The result at anything is its row blocks to come. -/
theorem todos_whole (g : S10000x256.Idx → Elt F .f32) :
    (((c : Thread nD τ).loc main_v1) ↦{fullShare} g : sProp 𝕄) ⊢ todos c 0 125 := by
  rw [Ring.pointsTo_blocks (ℓ := (c : Thread nD τ).loc main_v1) (fun b => (resRect b).set) res_disjoint res_cover]
  have h : ∀ b : Fin 125, ((((c : Thread nD τ).loc main_v1) ↦[(resRect b).set]{fullShare} g : sProp 𝕄)) ⊢ todo (F := F) c b := fun b => by
    unfold todo; rw [resBlk_set]; iintro H; iexists g; iexact H
  refine BIBase.Entails.trans (bigSep_mono fun b _ => h b) (entails_of_eq ((bigSep_fin_range 125 (todo (F := F) c)).trans ?_))
  unfold todos; rw [Finset.range_eq_Ico]

omit [FloatOps F] in
/-- Two families side by side are the family of the pairs. -/
theorem both {n : ℕ} (P R : Fin n → sProp 𝕄) :
    iprop((bigSep Finset.univ P) ∗ bigSep Finset.univ R) = bigSep Finset.univ fun s => iprop(P s ∗ R s) := (bigSep_sep ..).symm

/-- The input ring whole with its semaphores at zero is its free slots, -/
theorem in_enter : iprop((∃ f : Buf (Elt F) ((c : Thread nD τ).loc cc0_scoped0), ((c : Thread nD τ).loc cc0_scoped0) ↦{fullShare} f)
      ∗ bigSep Finset.univ fun s : Fin 10 => semVal ((c : Thread nD τ), SemLoc.dma (inSem s).sem) 0)
    ⊢ (bigSep (Finset.range 10) fun s => inFree (F := F) c (Ring.sl 10 s) : sProp 𝕄) := by
  have h : ∀ (f : Buf (Elt F) ((c : Thread nD τ).loc cc0_scoped0)) (s : Fin 10),
      iprop((((c : Thread nD τ).loc cc0_scoped0) ↦[(inRect s).set]{fullShare} f)
        ∗ semVal ((c : Thread nD τ), SemLoc.dma (inSem s).sem) 0) ⊢ (inFree (F := F) c s : sProp 𝕄) := fun f s => by
    unfold inFree inAt; rw [inSlot_set]
    iintro ⟨H, Hv⟩; iexists f
    isplitl [H]; · iexact H
    iexact Hv
  have h' : ∀ f : Buf (Elt F) ((c : Thread nD τ).loc cc0_scoped0), iprop((((c : Thread nD τ).loc cc0_scoped0) ↦{fullShare} f)
      ∗ bigSep Finset.univ fun s : Fin 10 => semVal ((c : Thread nD τ), SemLoc.dma (inSem s).sem) 0)
      ⊢ (bigSep (Finset.range 10) fun s => inFree (F := F) c (Ring.sl 10 s) : sProp 𝕄) := fun f => by
    rw [Ring.pointsTo_blocks (ℓ := (c : Thread nD τ).loc cc0_scoped0) (fun s => (inRect s).set) in_disjoint in_cover, both]
    exact BIBase.Entails.trans (bigSep_mono fun s _ => h f s) (entails_of_eq (bigSep_fin_range 10 (inFree (F := F) c)))
  iintro ⟨⟨%f, H⟩, Hv⟩
  iapply (h' f)
  isplitl [H]; · iexact H
  iexact Hv

/-- and back. -/
theorem in_leave : (bigSep (Finset.range 10) fun s => inFree (F := F) c (Ring.sl 10 s) : sProp 𝕄)
    ⊢ iprop((∃ f : Buf (Elt F) ((c : Thread nD τ).loc cc0_scoped0), ((c : Thread nD τ).loc cc0_scoped0) ↦{fullShare} f)
      ∗ bigSep Finset.univ fun s : Fin 10 => semVal ((c : Thread nD τ), SemLoc.dma (inSem s).sem) 0) := by
  have h : ∀ s : Fin 10, (inFree (F := F) c s : sProp 𝕄)
      ⊢ iprop((∃ f : Buf (Elt F) ((c : Thread nD τ).loc cc0_scoped0), ((c : Thread nD τ).loc cc0_scoped0) ↦[(inRect s).set]{fullShare} f)
        ∗ semVal ((c : Thread nD τ), SemLoc.dma (inSem s).sem) 0) := fun s => by
    unfold inFree inAt; rw [inSlot_set]
    iintro ⟨%f, H, Hv⟩
    isplitl [H]; · iexists f; iexact H
    iexact Hv
  refine BIBase.Entails.trans (entails_of_eq (bigSep_fin_range 10 (inFree (F := F) c)).symm) ?_
  refine BIBase.Entails.trans (bigSep_mono fun s _ => h s) (BIBase.Entails.trans (entails_of_eq (both _ _).symm) ?_)
  iintro ⟨H, Hv⟩
  isplitl [H]
  · iapply (Ring.pointsTo_blocks_join_exists (ℓ := (c : Thread nD τ).loc cc0_scoped0) (fun s => (inRect s).set) in_disjoint in_cover
      (Classical.choice inferInstance))
    iexact H
  iexact Hv

/-- The output ring whole with its semaphores at zero is its free slots, -/
theorem out_enter : iprop((∃ f : Buf (Elt F) ((c : Thread nD τ).loc cc0_scoped2), ((c : Thread nD τ).loc cc0_scoped2) ↦{fullShare} f)
      ∗ bigSep Finset.univ fun s : Fin 2 => semVal ((c : Thread nD τ), SemLoc.dma (outSem s).sem) 0)
    ⊢ (bigSep (Finset.range 2) fun s => outFree (F := F) c (Ring.sl 2 s) : sProp 𝕄) := by
  have h : ∀ (f : Buf (Elt F) ((c : Thread nD τ).loc cc0_scoped2)) (s : Fin 2),
      iprop((((c : Thread nD τ).loc cc0_scoped2) ↦[(outRect s).set]{fullShare} f)
        ∗ semVal ((c : Thread nD τ), SemLoc.dma (outSem s).sem) 0) ⊢ (outFree (F := F) c s : sProp 𝕄) := fun f s => by
    unfold outFree outAt; rw [outSlot_set]
    iintro ⟨H, Hv⟩; iexists f
    isplitl [H]; · iexact H
    iexact Hv
  have h' : ∀ f : Buf (Elt F) ((c : Thread nD τ).loc cc0_scoped2), iprop((((c : Thread nD τ).loc cc0_scoped2) ↦{fullShare} f)
      ∗ bigSep Finset.univ fun s : Fin 2 => semVal ((c : Thread nD τ), SemLoc.dma (outSem s).sem) 0)
      ⊢ (bigSep (Finset.range 2) fun s => outFree (F := F) c (Ring.sl 2 s) : sProp 𝕄) := fun f => by
    rw [Ring.pointsTo_blocks (ℓ := (c : Thread nD τ).loc cc0_scoped2) (fun s => (outRect s).set) out_disjoint out_cover, both]
    exact BIBase.Entails.trans (bigSep_mono fun s _ => h f s) (entails_of_eq (bigSep_fin_range 2 (outFree (F := F) c)))
  iintro ⟨⟨%f, H⟩, Hv⟩
  iapply (h' f)
  isplitl [H]; · iexact H
  iexact Hv

/-- and back. -/
theorem out_leave : (bigSep (Finset.range 2) fun s => outFree (F := F) c (Ring.sl 2 s) : sProp 𝕄)
    ⊢ iprop((∃ f : Buf (Elt F) ((c : Thread nD τ).loc cc0_scoped2), ((c : Thread nD τ).loc cc0_scoped2) ↦{fullShare} f)
      ∗ bigSep Finset.univ fun s : Fin 2 => semVal ((c : Thread nD τ), SemLoc.dma (outSem s).sem) 0) := by
  have h : ∀ s : Fin 2, (outFree (F := F) c s : sProp 𝕄)
      ⊢ iprop((∃ f : Buf (Elt F) ((c : Thread nD τ).loc cc0_scoped2), ((c : Thread nD τ).loc cc0_scoped2) ↦[(outRect s).set]{fullShare} f)
        ∗ semVal ((c : Thread nD τ), SemLoc.dma (outSem s).sem) 0) := fun s => by
    unfold outFree outAt; rw [outSlot_set]
    iintro ⟨%f, H, Hv⟩
    isplitl [H]; · iexists f; iexact H
    iexact Hv
  refine BIBase.Entails.trans (entails_of_eq (bigSep_fin_range 2 (outFree (F := F) c)).symm) ?_
  refine BIBase.Entails.trans (bigSep_mono fun s _ => h s) (BIBase.Entails.trans (entails_of_eq (both _ _).symm) ?_)
  iintro ⟨H, Hv⟩
  isplitl [H]
  · iapply (Ring.pointsTo_blocks_join_exists (ℓ := (c : Thread nD τ).loc cc0_scoped2) (fun s => (outRect s).set) out_disjoint out_cover
      (Classical.choice inferInstance))
    iexact H
  iexact Hv

/-- The two free output slots and the blocks to come are the output side before the first trip. -/
theorem ringOut_first : iprop((bigSep (Finset.range 2) fun s => outFree (F := F) c (Ring.sl 2 s)) ∗ todos (F := F) c 0 125) ⊢ ringOut c O 0 := by
  unfold ringOut other dones
  rw [if_pos rfl, run_empty (Nat.zero_le 0), Finset.range_eq_Ico, bigSep_Ico_succ_bot (show 0 < 2 by omega),
    bigSep_Ico_one]
  iintro ⟨⟨H0, H1⟩, Ht⟩
  isplitr; · iempintro
  isplitl [Ht]; · iexact Ht
  isplitl [H1]; · iexact H1
  iexact H0

/-- The free input slots and the blocks at home are the input side before the first issue. -/
theorem ringPre_first : iprop((bigSep (Finset.range 10) fun s => inFree (F := F) c (Ring.sl 10 s)) ∗ homes c A 0 125) ⊢ ringPre c A 0 := by
  unfold ringPre
  rw [run_empty (Nat.le_refl 0), Finset.range_eq_Ico]
  iintro ⟨Hs, Hh⟩
  isplitr; · iempintro
  isplitl [Hs]; · iexact Hs
  iexact Hh

/-- The kernel's buffers that no window stages, the adjacency matrix at `A` and the result at `g`. -/
def buffers (g : S10000x256.Idx → Elt F .f32) : sProp 𝕄 :=
  iprop((((c : Thread nD τ).loc main_arg1) ↦{fullShare} A) ∗ (((c : Thread nD τ).loc main_v1) ↦{fullShare} g)
    ∗ (∃ f : Buf (Elt F) ((c : Thread nD τ).loc cc0_scratch0), ((c : Thread nD τ).loc cc0_scratch0) ↦{fullShare} f)
    ∗ (∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ Pipeline.ownSems0 osem c)

variable (x : S10000x256.Idx → Elt F .f32) (W : S256x256.Idx → Elt F .f32) (bi : S1x256.Idx → Elt F .f32)

/-- With the staged windows they are what the body starts from, -/
theorem enter (g : S10000x256.Idx → Elt F .f32) :
    iprop(buffers c A g ∗ (((c : Thread nD τ).loc cc0_stg0_0) ↦{fullShare} x) ∗ (((c : Thread nD τ).loc cc0_stg1_0) ↦{fullShare} W)
      ∗ (((c : Thread nD τ).loc cc0_stg2_0) ↦{fullShare} bi) ∗ ∃ V, owes (c : Thread nD τ) 0 V) ⊢ start c A bi x W := by
  unfold buffers start staged
  rw [ownSems_eq, homes_whole]
  iintro ⟨⟨HA, Hg, Hs, Hi, Ho, Hvi, Hvo⟩, Hx, HW, Hb, Hw⟩
  isplitl [Hx HW]
  · isplitl [Hx]; · iexact Hx
    iexact HW
  isplitl [Hs]; · iexact Hs
  isplitl [Hb]; · iexact Hb
  isplitl [HA Hi Hvi]
  · iapply (ringPre_first c A)
    isplitl [Hi Hvi]
    · iapply (in_enter c)
      isplitl [Hi]; · iexact Hi
      iexact Hvi
    iexact HA
  isplitl [Hg Ho Hvo]
  · iapply (ringOut_first c _)
    isplitl [Ho Hvo]
    · iapply (out_enter c)
      isplitl [Ho]; · iexact Ho
      iexact Hvo
    iapply (todos_whole c g); iexact Hg
  iexact Hw

/-- and what it ends with is those buffers again, the result computed. -/
theorem leave : finish c A bi x W ⊢
    iprop(buffers c A (resAll (prod A (k0_pay3 x W) bi)) ∗ (((c : Thread nD τ).loc cc0_stg0_0) ↦{fullShare} x) ∗ (((c : Thread nD τ).loc cc0_stg1_0) ↦{fullShare} W)
      ∗ (((c : Thread nD τ).loc cc0_stg2_0) ↦{fullShare} bi) ∗ ∃ V, owes (c : Thread nD τ) 0 V) := by
  unfold buffers finish staged operands
  rw [ownSems_eq, dones_whole, homes_whole]
  iintro ⟨⟨Hx, HW⟩, ⟨Hs, Hb⟩, Hi, HA, Hg, Ho, Hw⟩
  ihave Hi' := (in_leave c) $$ Hi
  icases Hi' with ⟨Hi, Hvi⟩
  ihave Ho' := (out_leave c) $$ Ho
  icases Ho' with ⟨Ho, Hvo⟩
  isplitl [HA Hg Hs Hi Ho Hvi Hvo]
  · isplitl [HA]; · iexact HA
    isplitl [Hg]; · iexact Hg
    isplitl [Hs]; · iexists _; iexact Hs
    isplitl [Hi]; · iexact Hi
    isplitl [Ho]; · iexact Ho
    isplitl [Hvi]; · iexact Hvi
    iexact Hvo
  isplitl [Hx]; · iexact Hx
  isplitl [HW]; · iexact HW
  isplitl [Hb]; · iexact Hb
  iexact Hw

end
end Cert.Proof.K

end
-- ==== Proof.K.Run.lean ====
module

public import proofs.«01_k».proof.Proof.K.Blocks
public import proofs.«01_k».proof.Proof.Gen.KernelIdeal.Points
public import proofs.«01_k».proof.Proof.Gen.KernelIdeal.Launch
public import Idealize.ShloMosaic.Lib.Pipeline.Frame
public import Idealize.ShloMosaic.Lib.Pipeline.KitQuiescent

@[expose] public section

set_option maxRecDepth 16384

noncomputable section

namespace Cert.Proof.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-- The buffers' contents when the kernel starts: the bias has been laid out as one row. -/
abbrev V (c : Dev nD) (b : Ref sig .tc) : Buf (Elt F) ((c : Thread nD τ).loc b) := StableHlo.after (hostOps0 (F := F)) (fun b => m (c, b)) b

/-- The launch contents of the features, the adjacency matrix and the weights, and the bias as one row. -/
abbrev xOf (c : Dev nD) : S10000x256.Idx → Elt F .f32 := m ((c : Thread nD τ).loc main_arg0)
abbrev adjOf (c : Dev nD) : S10000x10000.Idx → Elt F .f32 := m ((c : Thread nD τ).loc main_arg1)
abbrev wOf (c : Dev nD) : S256x256.Idx → Elt F .f32 := m ((c : Thread nD τ).loc main_arg2)
abbrev biOf (c : Dev nD) : S1x256.Idx → Elt F .f32 := shapeCast S1x256 (m ((c : Thread nD τ).loc main_arg3)) shapeCasts_S256_S1x256

theorem V_arg0 (c : Dev nD) : V m c main_arg0 = xOf m c := by
  simp only [V, StableHlo.after_cons, StableHlo.after_nil]; exact StableHlo.reshape_result_ne _ _ _ _ _ _ _ (by decide)
theorem V_arg1 (c : Dev nD) : V m c main_arg1 = adjOf m c := by
  simp only [V, StableHlo.after_cons, StableHlo.after_nil]; exact StableHlo.reshape_result_ne _ _ _ _ _ _ _ (by decide)
theorem V_arg2 (c : Dev nD) : V m c main_arg2 = wOf m c := by
  simp only [V, StableHlo.after_cons, StableHlo.after_nil]; exact StableHlo.reshape_result_ne _ _ _ _ _ _ _ (by decide)
theorem V_arg3 (c : Dev nD) : V m c main_arg3 = m ((c : Thread nD τ).loc main_arg3) := by
  simp only [V, StableHlo.after_cons, StableHlo.after_nil]; exact StableHlo.reshape_result_ne _ _ _ _ _ _ _ (by decide)
theorem V_v0 (c : Dev nD) : V m c main_v0 = biOf m c := by
  simp only [V, StableHlo.after_cons, StableHlo.after_nil]; rw [StableHlo.reshape_result]; rfl

/-- The result the kernel computes. -/
def result (c : Dev nD) : S10000x256.Idx → Elt F .f32 := resAll (prod (adjOf m c) (k0_pay3 (xOf m c) (wOf m c)) (biOf m c))

/-- The proof's data: the windows are only read, and around the one point stand the other buffers, the result computed after it. -/
def dats (_ : Fin 1) (c : Dev nD) : Dat τ (Elt F) Unit ℕ (UU nD τ) ℕ (cfg0 (F := F)) c where
  A w := V m c (Pipeline.arrRef spec0 w)
  after w t := match w with
    | ⟨0, _⟩ => xOf m c
    | ⟨1, _⟩ => wOf m c
    | ⟨2, _⟩ => biOf m c
  Φ t := buffers c (adjOf m c) (if t.val = 0 then V m c main_v1 else result m c)
  q _ := fullShare
  owed _ := 0

theorem read_w0 (t : Fin (cfg0 (F := F)).N) (f : S10000x256.Idx → Elt F .f32) : View.read (Elt F) (((cfg0 (F := F)).win 0).blk t).view f = f := by
  funext i; refine (View.read_apply ..).trans (congrArg f ?_)
  funext a; apply Fin.ext; show 0 * _ + 1 * (i a).val = (i a).val; omega
theorem before_w0 (c : Dev nD) (t : Fin (cfg0 (F := F)).N) (d) : (dats m 0 c).before 0 t d = xOf m c := by
  unfold Dat.before; rw [if_pos (fetch0_0 t)]; unfold Dat.fetched Dat.blockOf; dsimp only [dats]
  exact (read_w0 t (V m c main_arg0)).trans (V_arg0 m c)
theorem read_w1 (t : Fin (cfg0 (F := F)).N) (f : S256x256.Idx → Elt F .f32) : View.read (Elt F) (((cfg0 (F := F)).win 1).blk t).view f = f := by
  funext i; refine (View.read_apply ..).trans (congrArg f ?_)
  funext a; apply Fin.ext; show 0 * _ + 1 * (i a).val = (i a).val; omega
theorem before_w1 (c : Dev nD) (t : Fin (cfg0 (F := F)).N) (d) : (dats m 0 c).before 1 t d = wOf m c := by
  unfold Dat.before; rw [if_pos (fetch0_1 t)]; unfold Dat.fetched Dat.blockOf; dsimp only [dats]
  exact (read_w1 t (V m c main_arg2)).trans (V_arg2 m c)
theorem read_w2 (t : Fin (cfg0 (F := F)).N) (f : S1x256.Idx → Elt F .f32) : View.read (Elt F) (((cfg0 (F := F)).win 2).blk t).view f = f := by
  funext i; refine (View.read_apply ..).trans (congrArg f ?_)
  funext a; apply Fin.ext; show 0 * _ + 1 * (i a).val = (i a).val; omega
theorem before_w2 (c : Dev nD) (t : Fin (cfg0 (F := F)).N) (d) : (dats m 0 c).before 2 t d = biOf m c := by
  unfold Dat.before; rw [if_pos (fetch0_2 t)]; unfold Dat.fetched Dat.blockOf; dsimp only [dats]
  exact (read_w2 t (V m c main_v0)).trans (V_v0 m c)
theorem after_w0 (c : Dev nD) (t : Fin (cfg0 (F := F)).N) : (dats m 0 c).after 0 t = xOf m c := rfl
theorem after_w1 (c : Dev nD) (t : Fin (cfg0 (F := F)).N) : (dats m 0 c).after 1 t = wOf m c := rfl
theorem after_w2 (c : Dev nD) (t : Fin (cfg0 (F := F)).N) : (dats m 0 c).after 2 t = biOf m c := rfl

set_option backward.isDefEq.respectTransparency.types false in
theorem owns_st0 (c : Dev nD) (X : S10000x256.Idx → Elt F .f32) :
    (owns (c : Thread nD τ) (stage0_0 0) fullShare X : sProp 𝕄) = ((c : Thread nD τ).loc cc0_stg0_0) ↦{fullShare} X :=
  owns_whole (c : Thread nD τ) cc0_stg0_0 fullShare X
set_option backward.isDefEq.respectTransparency.types false in
theorem owns_st1 (c : Dev nD) (X : S256x256.Idx → Elt F .f32) :
    (owns (c : Thread nD τ) (stage0_1 0) fullShare X : sProp 𝕄) = ((c : Thread nD τ).loc cc0_stg1_0) ↦{fullShare} X :=
  owns_whole (c : Thread nD τ) cc0_stg1_0 fullShare X
set_option backward.isDefEq.respectTransparency.types false in
theorem owns_st2 (c : Dev nD) (X : S1x256.Idx → Elt F .f32) :
    (owns (c : Thread nD τ) (stage0_2 0) fullShare X : sProp 𝕄) = ((c : Thread nD τ).loc cc0_stg2_0) ↦{fullShare} X :=
  owns_whole (c : Thread nD τ) cc0_stg2_0 fullShare X

theorem defs_tc : (defs₀ (F := F)) .tc (cfg0 (F := F)).body
    = fun a => cc0_outer (win0_0.stage (a.2 0)) (hstage0_0 0) (win0_1.stage (a.2 1)) (hstage0_1 0) (win0_2.stage (a.2 2)) (hstage0_2 0)
      adjM (Memref.isWhole_whole _) resM (Memref.isWhole_whole _) hM (Memref.isWhole_whole _)
      inM (Memref.isWhole_whole _) cc0_scoped1 outM (Memref.isWhole_whole _) cc0_scoped3 := rfl
theorem prog_eq (t : Fin (cfg0 (F := F)).N) : (defs₀ (F := F)) .tc (cfg0 (F := F)).body ((cfg0 (F := F)).bodyArgs t ((cfg0 (F := F)).slots t))
    = cc0_outer (F := F) (Memref.whole cc0_stg0_0) (Memref.isWhole_whole _) (Memref.whole cc0_stg1_0) (Memref.isWhole_whole _)
        (Memref.whole cc0_stg2_0) (Memref.isWhole_whole _) adjM (Memref.isWhole_whole _) resM (Memref.isWhole_whole _) hM (Memref.isWhole_whole _)
        inM (Memref.isWhole_whole _) cc0_scoped1 outM (Memref.isWhole_whole _) cc0_scoped3 := (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  have ht : t.val = 0 := by have := fin_N0 t; subst this; rfl
  rw [show (dats m 0 c).Φ t.castSucc = buffers c (adjOf m c) (V m c main_v1) from congrArg (buffers c (adjOf m c)) (if_pos ht),
    show (dats m 0 c).Φ t.succ = buffers c (adjOf m c) (result m c) from congrArg (buffers c (adjOf m c)) (if_neg (Nat.succ_ne_zero _))]
  unfold Dat.owesAt Pipeline.owesWithin
  rw [show (dats m 0 c).owed t.castSucc = 0 from rfl, show (dats m 0 c).owed t.succ = 0 from rfl]
  iintro ⟨HB, ⟨%W, -, HW⟩, ⟨%d0, H0⟩, ⟨%d1, H1⟩, ⟨%d2, H2⟩⟩
  ihave H0 := (entails_of_eq (owns_st0 c (xOf m c))) $$ H0
  ihave H1 := (entails_of_eq (owns_st1 c (wOf m c))) $$ H1
  ihave H2 := (entails_of_eq (owns_st2 c (biOf m c))) $$ H2
  sl_rw [prog_eq t]
  iapply (body_run c (adjOf m c) (biOf m c) (xOf m c) (wOf m c) _)
  isplitl [HB HW H0 H1 H2]
  · iapply (enter c (adjOf m c) (xOf m c) (wOf m c) (biOf m c) (V m c main_v1))
    isplitl [HB]; · iexact HB
    isplitl [H0]; · iexact H0
    isplitl [H1]; · iexact H1
    isplitl [H2]; · iexact H2
    iexists W; iexact HW
  iintro H
  ihave H := (leave c (adjOf m c) (xOf m c) (wOf m c) (biOf m c)) $$ H
  icases H with ⟨HB, H0, H1, H2, ⟨%W', HW⟩⟩
  isplitl [HB]; · iexact HB
  isplitl [HW]
  · iexists W'; isplitr; · ipureintro; exact fun _ _ => Or.inl trivial
    iexact HW
  isplitl [H0]; · iapply (entails_of_eq (owns_st0 c (xOf m c)).symm); iexact H0
  isplitl [H1]; · iapply (entails_of_eq (owns_st1 c (wOf m c)).symm); iexact H1
  iapply (entails_of_eq (owns_st2 c (biOf m c)).symm); iexact H2

/-- What enters the region besides the scoped buffers, and what leaves it. -/
def into (c : Dev nD) : sProp 𝕄 :=
  iprop((((c : Thread nD τ).loc main_arg1) ↦{fullShare} adjOf m c) ∗ (((c : Thread nD τ).loc main_v1) ↦{fullShare} V m c main_v1) ∗ Pipeline.ownSems0 osem c)
def outOf (c : Dev nD) : sProp 𝕄 :=
  iprop((((c : Thread nD τ).loc main_arg1) ↦{fullShare} adjOf m c) ∗ (((c : Thread nD τ).loc main_v1) ↦{fullShare} result m c))
/-- What passes the region by. -/
def beside (c : Dev nD) : sProp 𝕄 := ((c : Thread nD τ).loc main_arg3) ↦{fullShare} m ((c : Thread nD τ).loc main_arg3)
def u₀ : UU nD τ := (initOf (Pipeline.cells (cfgs (F := F)) cellOf_inj) (Pipeline.launchToks (cfgs (F := F)) cellOf_inj), 1)

/-- What a final memory holds of the buffers that are no window's. -/
def Held (c : Dev nD) (s : MemSt nD τ sig (Elt F)) : Prop :=
  s.mem ((c : Thread nD τ).loc main_arg1) = m ((c : Thread nD τ).loc main_arg1)
    ∧ s.mem ((c : Thread nD τ).loc main_arg3) = m ((c : Thread nD τ).loc main_arg3)
    ∧ s.mem ((c : Thread nD τ).loc main_v1) = result m c
/-- What the run ends with: the arguments unchanged, the result computed, every semaphore at zero. -/
def Post (r : PUnit × MemSt nD τ sig (Elt F)) : Prop :=
  (∀ c : Dev nD, r.2.mem ((c : Thread nD τ).loc main_arg0) = m ((c : Thread nD τ).loc main_arg0)
    ∧ r.2.mem ((c : Thread nD τ).loc main_arg2) = m ((c : Thread nD τ).loc main_arg2) ∧ Held m c r.2) ∧ r.2.sem = fun _ => 0

theorem arr_w0 (c : Dev nD) : (dats m 0 c).arrAt 0 (cfg0 (F := F)).N = m ((c : Thread nD τ).loc main_arg0) :=
  ((dats (F := F) m 0 c).arrAt_in 0 rfl _).trans (V_arg0 m c)
theorem arr_w1 (c : Dev nD) : (dats m 0 c).arrAt 1 (cfg0 (F := F)).N = m ((c : Thread nD τ).loc main_arg2) :=
  ((dats (F := F) m 0 c).arrAt_in 1 rfl _).trans (V_arg2 m c)

theorem hmain : Pipeline.HMain (Ix := Unit) (Name := ℕ) (U := UU nD τ) (Lvl := ℕ) (cfgs (F := F)) 0 (defs₀ (F := F)) 𝒱₀ m (main (F := F)) (V m) :=
  Pipeline.hmain_prefix (cfgs (F := F)) 0 (defs₀ (F := F)) 𝒱₀ m main hostOps0 hostOps0_sub (by simp only [List.forall_cons]; exact ⟨rfl, trivial⟩) main_chain

set_option backward.isDefEq.respectTransparency.types false in
/-- From any memory with every semaphore at zero, every weakly fair execution of the kernel ends, with the arguments
    unchanged, the result computed, and every semaphore at zero. -/
theorem run_main : θ_run defs (onTc (τ := τ) (main (F := F))) (s₀ m ρ) (Post m) :=
  Pipeline.θ_run_region_kit_quiescent (cfgs (F := F)) (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m) (hA := fun _ _ => rfl)
    (X := into m) (Y := outOf m) (Z := beside m)
    (hX := fun c => by
      rw [unscopedRest0_eq, V_arg1, V_arg3]
      unfold into beside
      iintro ⟨⟨HA, H3, Hg⟩, HS, -, -, -⟩; imodintro
      isplitl [HA Hg HS]
      · isplitl [HA]; · iexact HA
        isplitl [Hg]; · iexact Hg
        iexact HS
      iexact H3)
    (hin := fun c => by
      rw [scopedRest0_eq, show (dats m 0 c).Φ 0 = buffers c (adjOf m c) (V m c main_v1) from rfl]
      unfold into buffers
      iintro ⟨⟨HA, Hg, HS⟩, Hs, Hi, Ho⟩
      isplitl [HA]; · iexact HA
      isplitl [Hg]; · iexact Hg
      isplitl [Hs]; · iexact Hs
      isplitl [Hi]; · iexact Hi
      isplitl [Ho]; · iexact Ho
      iexact HS)
    (hout := fun c => by
      rw [scopedRest0_eq, show (dats m 0 c).Φ (Fin.last (cfg0 (F := F)).N) = buffers c (adjOf m c) (result m c) from
        congrArg (buffers c (adjOf m c)) (if_neg (by rw [Fin.val_last, show (cfg0 (F := F)).N = 1 from N_0]; exact Nat.one_ne_zero))]
      unfold outOf buffers
      iintro ⟨HA, Hg, Hs, Hi, Ho, HS⟩
      isplitl [HA Hg]
      · isplitl [HA]; · iexact HA
        iexact Hg
      isplitl [HS]; · iexact HS
      isplitl [Hs]; · iexact Hs
      isplitl [Hi]; · iexact Hi
      iexact Ho)
    (QY := Held m)
    (hY := fun c s' => by
      unfold outOf beside
      iintro ⟨⟨HA, Hg⟩, H3, HSI⟩
      icombine HSI HA gives %h1
      icombine HSI H3 gives %h3
      icombine HSI Hg gives %hg
      imodintro
      isplitr; · ipureintro; exact ⟨Buf.eq_of_forall_mem_univ h1, Buf.eq_of_forall_mem_univ h3, Buf.eq_of_forall_mem_univ hg⟩
      iexact HSI)
    (hQ := fun s hh hz => ⟨fun c => ⟨((hh c).1 0).trans (arr_w0 m c), ((hh c).1 1).trans (arr_w1 m c), (hh c).2⟩, hz⟩)

end Cert.Proof.K

end
-- ==== Proof.K.Value.lean ====
/-
  The kernel's result over the extended reals. A conversion between formats changes nothing there, so the features times
  the weights, the rows of the adjacency matrix times that, and the bias on top are the reference's own sums: the row
  `80 b + r` of the result is row `r` of block `b`, and both sides add the same products in the same order of nesting.
-/
module

public import proofs.«01_k».proof.Proof.K.Run
public import proofs.«01_k».proof.Proof.Gen.ReferenceIdeal
public import Idealize.ShloMosaic.Lib.MatmulPlain
public import Idealize.ShloMosaic.Lib.StackMember
public import Idealize.ShloMosaic.Lib.KernelVsHost

@[expose] public section

set_option maxRecDepth 16384

noncomputable section

namespace Cert.Proof.K

open Cert.KernelIdeal Cert.KernelIdeal.Gen
open Idealize.ShloMosaic
open Idealize.ShloMosaic.TcCoe Idealize.ShloMosaic.ValueIdx

/-! ## The three payloads read at an index -/

/-- The features times the weights, as the kernel keeps them, read at row `k` and column `c`. -/
theorem pay3_at (x : Vec Ideal S10000x256 .f32) (W : Vec Ideal S256x256 .f32) (k : Fin 10000) (c : Fin 256) :
    k0_pay3 (F := Ideal) x W (ix2 k c) = ∑ j : Fin 256, x (ix2 k j) * W (ix2 j c) := by
  unfold k0_pay3
  rw [shapeCast_self]
  refine (Ideal.matmul_plain_apply (M := 10000) (K := 256) (N := 256) none (φ₁ := .bf16) (φ₂ := .bf16) x W _ k c).trans ?_
  exact (congrArg (· + _) Ideal.ofBits_zero_f32).trans (zero_add _)

/-- A block of the adjacency matrix, its leading axis of size one dropped. -/
theorem pay1_at (A : S10000x10000.Idx → Elt Ideal .f32) (b : Fin 125) (r : Fin 80) (k : Fin 10000) :
    k0_pay1 (F := Ideal) (blockVal A b) (ix2 r k)
      = A (ix2 (⟨80 * b.val + r.val, by have := b.isLt; have := r.isLt; omega⟩ : Fin 10000) k) :=
  shapeCast_dropUnit_apply ![80, 10000] (blockVal A b) shapeCasts_S1x80x10000_S80x10000 (ix2 r k)

/-- The bias row under every row of a block. -/
theorem bias_at (bi : Vec Ideal S1x256 .f32) (r : Fin 80) (c : Fin 256) :
    broadcastTo S80x256 (shapeCast S1x256 bi shapeCasts_S1x256_S1x256) broadcasts_S1x256_S80x256 (ix2 r c) = bi (ix2 (0 : Fin 1) c) := by
  rw [shapeCast_self]
  exact broadcastTo_apply _ _ _ _ fun a => match a with
    | ⟨0, _⟩ => rfl
    | ⟨1, _⟩ => rfl

/-- One block of the product, read at its row `r` and column `c`. -/
theorem prod_at (A : S10000x10000.Idx → Elt Ideal .f32) (h : Vec Ideal S10000x256 .bf16) (bi : Vec Ideal S1x256 .f32) (b : Fin 125)
    (r : Fin 80) (c : Fin 256) : prod (F := Ideal) A h bi b (ix3 (0 : Fin 1) r c)
      = (∑ k : Fin 10000, A (ix2 (⟨80 * b.val + r.val, by have := b.isLt; have := r.isLt; omega⟩ : Fin 10000) k) * h (ix2 k c))
        + bi (ix2 (0 : Fin 1) c) := by
  unfold prod k0_pay2
  refine (shapeCast_addUnit_apply ![80, 256] _ shapeCasts_S80x256_S1x80x256 (ix3 (0 : Fin 1) r c)).trans ?_
  rw [show (fun a : Fin 2 => (ix3 (0 : Fin 1) r c : Shape.Idx ⟨3, ![1, 80, 256]⟩) a.succ) = ix2 r c from by
    funext a; fin_cases a <;> rfl]
  refine congrArg₂ (α := EReal) (β := EReal) (γ := EReal) (· + ·) ?_ (bias_at bi r c)
  refine (Ideal.matmul_plain_apply (M := 80) (K := 10000) (N := 256) none (φ₁ := .bf16) (φ₂ := .bf16)
    (k0_pay1 (F := Ideal) (blockVal A b)) h _ r c).trans ?_
  refine ((congrArg (· + _) Ideal.ofBits_zero_f32).trans (zero_add _)).trans ?_
  exact Finset.sum_congr rfl fun k _ => congrArg (· * _) (pay1_at A b r k)

/-! ## The whole result -/

/-- The bias laid out as one row reads it. -/
theorem biasRow_at (v : S256.Idx → Elt Ideal .f32) (c : Fin 256) :
    shapeCast S1x256 v shapeCasts_S256_S1x256 (ix2 (0 : Fin 1) c) = v (ix1 c) :=
  (shapeCast_addUnit_apply ![256] v shapeCasts_S256_S1x256 (ix2 (0 : Fin 1) c)).trans (congrArg v (by funext a; fin_cases a; rfl))

/-- Row `i` of the result is row `i % 80` of block `i / 80`. -/
theorem resAll_at (A : S10000x10000.Idx → Elt Ideal .f32) (h : Vec Ideal S10000x256 .bf16) (bi : Vec Ideal S1x256 .f32)
    (i : Fin 10000) (c : Fin 256) : resAll (prod (F := Ideal) A h bi) (ix2 i c)
      = (∑ k : Fin 10000, A (ix2 i k) * h (ix2 k c)) + bi (ix2 (0 : Fin 1) c) := by
  refine (prod_at A h bi _ _ c).trans ?_
  have e : (⟨80 * (i.val / 80) + i.val % 80, by omega⟩ : Fin 10000) = i := Fin.ext (Nat.div_add_mod i.val 80)
  exact congrArg (fun t : Fin 10000 => (∑ k : Fin 10000, A (ix2 t k) * h (ix2 k c)) + bi (ix2 (0 : Fin 1) c)) e

/-- The reference's result of the four arguments. -/
def refVal (x : S10000x256.Idx → Elt Ideal .f32) (A : S10000x10000.Idx → Elt Ideal .f32) (W : S256x256.Idx → Elt Ideal .f32)
    (v : S256.Idx → Elt Ideal .f32) : S10000x256.Idx → Elt Ideal .f32 :=
  addf (F := Ideal) (φ := .f32) (Host.dotGeneral (φ₁ := .f32) (φ₂ := .f32) Cert.ReferenceIdeal.dot_S10000x10000_S10000x256_S10000x256_1_0_0_1_n_n none A
      (Host.dotGeneral (φ₁ := .f32) (φ₂ := .f32) Cert.ReferenceIdeal.dot_S10000x256_S256x256_S10000x256_1_0_0_1_n_n none x W))
    (broadcastInDim Cert.ReferenceIdeal.S10000x256 ![0, 1] Cert.ReferenceIdeal.Gen.bcast_S1x256_S10000x256_0_1
      (broadcastInDim Cert.ReferenceIdeal.S1x256 ![1] Cert.ReferenceIdeal.Gen.bcast_S256_S1x256_1 v))

/-- The reference's result read at row `i` and column `c`. -/
theorem refVal_at (x : S10000x256.Idx → Elt Ideal .f32) (A : S10000x10000.Idx → Elt Ideal .f32) (W : S256x256.Idx → Elt Ideal .f32)
    (v : S256.Idx → Elt Ideal .f32) (i : Fin 10000) (c : Fin 256) :
    refVal x A W v (ix2 i c) = (∑ k : Fin 10000, A (ix2 i k) * ∑ j : Fin 256, x (ix2 k j) * W (ix2 j c)) + v (ix1 c) := by
  unfold refVal
  refine congrArg₂ (α := EReal) (β := EReal) (γ := EReal) (· + ·) ?_ ?_
  · refine (StackMember.dotGeneral_plain_apply (m := 10000) (k := 10000) (n := 256) (φ₁ := .f32) (φ₂ := .f32) none A _ i c).trans ?_
    exact Finset.sum_congr rfl fun k _ => congrArg (A (ix2 i k) * ·)
      (StackMember.dotGeneral_plain_apply (m := 10000) (k := 256) (n := 256) (φ₁ := .f32) (φ₂ := .f32) none x W k c)
  · refine (broadcastInDim_apply _ _ _ (ix2 i c) (ix2 (0 : Fin 1) c) fun a => match a with
      | ⟨0, _⟩ => rfl
      | ⟨1, _⟩ => rfl).trans ?_
    exact broadcastInDim_apply _ _ _ (ix2 (0 : Fin 1) c) (ix1 c) fun a => match a with
      | ⟨0, _⟩ => rfl

/-- The kernel's result is the reference's. -/
theorem result_eq (m : (ℓ : Loc nD τ sig) → Buf (Elt Ideal) ℓ) (c : Dev nD) :
    result (F := Ideal) m c = refVal (xOf m c) (adjOf m c) (wOf m c) (m ((c.tc : Thread nD τ).loc main_arg3)) := by
  funext y
  obtain ⟨i, j, rfl⟩ : ∃ (i : Fin 10000) (j : Fin 256), y = ix2 i j := ⟨y 0, y 1, (eq_ix2 y)⟩
  refine (resAll_at _ _ _ i j).trans (Eq.trans ?_ (refVal_at _ _ _ _ i j).symm)
  refine congrArg₂ (α := EReal) (β := EReal) (γ := EReal) (· + ·) ?_ (biasRow_at _ j)
  exact Finset.sum_congr rfl fun k _ => congrArg (adjOf m c (ix2 i k) * ·) (pay3_at _ _ k j)

end Cert.Proof.K

end
-- ==== Proof.lean ====
/- The proof of the claims: the frames of the two kernel programs and of the reference, and the equality of
   the two results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.K.Value
public import proofs.«01_k».proof.Proof.KB.Run
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.K (run_main result result_eq)

/-- The kernel over the machine's own words: its run leaves the arguments unchanged and every counter at zero. -/
theorem frame_kernel : Cert.quiescent_Kernel := fun m ρ _ =>
  (θ_run Cert.Kernel.defs _ _).mono (fun _ h => ⟨fun c => ⟨(h.1 c).1, (h.1 c).2.2.1, (h.1 c).2.1, (h.1 c).2.2.2.1⟩, h.2⟩)
    (Cert.Proof.KB.run_main (F := Bits) m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.2.1, (h.1 c).2.1, (h.1 c).2.2.2.1⟩, h.2⟩)
    (run_main (F := Ideal) m ρ)

/-- The reference leaves its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result: the kernel's is `refVal` of its arguments, which is the reference's own
    term. -/
theorem same_result : Cert.algebraic_KernelIdeal_ReferenceIdeal := by
  intro m ρ m' ρ' _ hagree
  refine ⟨fun c => result (F := Ideal) m c, ?_, ?_⟩
  · exact (θ_run Cert.KernelIdeal.defs _ _).mono
      (fun _ h c => ⟨(h.1 c).2.2.2.2, (h.1 c).1, (h.1 c).2.2.1, (h.1 c).2.1, (h.1 c).2.2.2.1⟩) (run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3⟩ := hagree c
    rw [e0, e1, e2, e3]
    exact (result_eq m c).symm

/-- Everything `Defs.lean` claims. -/
theorem claim : Cert.Claim := ⟨Cert.Kernel.Gen.facts, Cert.KernelIdeal.Gen.facts, Cert.ReferenceIdeal.Gen.facts,
  frame_kernel, frame_kernelIdeal, frame_reference, trivial, same_result⟩

end Cert.Proof

end
